-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_not_zero [hPre_scale_is_not_zero : Cert.Pre_scale_is_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_not_zero [hPre_scale_is_not_zero : Cert.Pre_scale_is_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scale_is_not_zero [hKernelIdeal : Cert.KernelIdeal.Facts] [hPre_scale_is_not_zero : Cert.Pre_scale_is_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scale_is_not_zero [hReferenceIdeal : Cert.ReferenceIdeal.Facts] [hPre_scale_is_not_zero : Cert.Pre_scale_is_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  IdealRules.named_const.Statement Cert.KernelIdeal.κ "inv_fp8_max" .f32 0x3B124925#32 ((448⁻¹ : ℝ) : EReal)

def algebraic_KernelIdeal_ReferenceIdeal_pre_scale_is_not_zero [hKernelIdeal : Cert.KernelIdeal.Facts] [hReferenceIdeal : Cert.ReferenceIdeal.Facts] [hPre_scale_is_not_zero : Cert.Pre_scale_is_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Norm_NormIdeal : Prop :=
  IdealRules.named_const.Statement Cert.NormIdeal.κ "inv_width" .f32 0x3A088889#32 ((1920⁻¹ : ℝ) : EReal)
  ∧ IdealRules.named_const.Statement Cert.NormIdeal.κ "inv_fp8_max" .f32 0x3B124925#32 ((448⁻¹ : ℝ) : EReal)

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v2_0) = v0 c
          ∧ r.2.mem ((c.tc : Thread Cert.NormReferenceIdeal.nD Cert.NormReferenceIdeal.τ).loc Cert.NormReferenceIdeal.main_v2_1) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hPre_scale_is_not_zero : Cert.Pre_scale_is_not_zero.Facts),
    quiescent_Kernel (hKernel := hKernel)
    ∧ quiescent_KernelIdeal (hKernelIdeal := hKernelIdeal)
    ∧ quiescent_KernelIdeal_pre_scale_is_not_zero (hKernelIdeal := hKernelIdeal) (hPre_scale_is_not_zero := hPre_scale_is_not_zero)
    ∧ quiescent_ReferenceIdeal (hReferenceIdeal := hReferenceIdeal)
    ∧ quiescent_ReferenceIdeal_pre_scale_is_not_zero (hReferenceIdeal := hReferenceIdeal) (hPre_scale_is_not_zero := hPre_scale_is_not_zero)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_scale_is_not_zero (hKernelIdeal := hKernelIdeal) (hReferenceIdeal := hReferenceIdeal) (hPre_scale_is_not_zero := hPre_scale_is_not_zero)
    ∧ preserves_Norm_NormIdeal
    ∧ algebraic_NormIdeal_NormReferenceIdeal (hNormIdeal := hNormIdeal) (hNormReferenceIdeal := hNormReferenceIdeal)
-- ==== Pre_scale_is_not_zero.lean ====
abbrev S1x1 : Shape := ⟨2, ![1, 1]⟩
abbrev S2048x1920 : Shape := ⟨2, ![2048, 1920]⟩
abbrev S1920 : Shape := ⟨1, ![1920]⟩
abbrev S1920x5120 : Shape := ⟨2, ![1920, 5120]⟩
abbrev S5120 : Shape := ⟨1, ![5120]⟩
abbrev S5120x1920 : Shape := ⟨2, ![5120, 1920]⟩
abbrev S_ : Shape := ⟨0, ![]⟩

class Facts : Prop where
  bcast_S_S1x1 : S_.BroadcastsInDim S1x1 (![] : Fin 0 → Fin S1x1.rank)

variable [Facts]

def fn {F : FTy → Type} [FloatOps F] (main_arg0 : FVec F S1x1 .f32) (main_arg1 : FVec F S2048x1920 .f32) (main_arg2 : FVec F S1920 .f32) (main_arg3 : FVec F S1920x5120 .fp8e4m3) (main_arg4 : FVec F S5120 .f32) (main_arg5 : FVec F S1920x5120 .fp8e4m3) (main_arg6 : FVec F S5120 .f32) (main_arg7 : FVec F S5120x1920 .fp8e4m3) (main_arg8 : FVec F S1920 .f32) : IVec S1x1 1 :=
  let main_cst : FVec F S_ .f32 := constant S_ .f32 0x00000000#32
  let main_v0 : FVec F S1x1 .f32 := broadcastInDim S1x1 ![] bcast_S_S1x1 main_cst
  let main_v1 : IVec S1x1 1 := cmpf .une main_arg0 main_v0
  main_v1
-- ==== Kernel.lean ====
abbrev S1x1 : Shape := ⟨2, ![1, 1]⟩
abbrev S2048x1920 : Shape := ⟨2, ![2048, 1920]⟩
abbrev S1920 : Shape := ⟨1, ![1920]⟩
abbrev S1920x5120 : Shape := ⟨2, ![1920, 5120]⟩
abbrev S5120 : Shape := ⟨1, ![5120]⟩
abbrev S5120x1920 : Shape := ⟨2, ![5120, 1920]⟩
abbrev S1x1920 : Shape := ⟨2, ![1, 1920]⟩
abbrev S1x5120 : Shape := ⟨2, ![1, 5120]⟩
abbrev S2048x5120 : Shape := ⟨2, ![2048, 5120]⟩
abbrev S2048x1 : Shape := ⟨2, ![2048, 1]⟩
abbrev S128x1920 : Shape := ⟨2, ![128, 1920]⟩
abbrev S128x5120 : Shape := ⟨2, ![128, 5120]⟩
abbrev S128x1 : Shape := ⟨2, ![128, 1]⟩
abbrev S128 : Shape := ⟨1, ![128]⟩
abbrev S1x128 : Shape := ⟨2, ![1, 128]⟩
abbrev S128x128 : Shape := ⟨2, ![128, 128]⟩
abbrev S1920x512 : Shape := ⟨2, ![1920, 512]⟩
abbrev S128x512 : Shape := ⟨2, ![128, 512]⟩
abbrev S1x512 : Shape := ⟨2, ![1, 512]⟩
abbrev S5120x256 : Shape := ⟨2, ![5120, 256]⟩
abbrev S128x256 : Shape := ⟨2, ![128, 256]⟩
abbrev S1x256 : Shape := ⟨2, ![1, 256]⟩
abbrev S5120x128 : Shape := ⟨2, ![5120, 128]⟩

abbrev nBuf : Space → Nat
  | .hbm => 20
  | .vmem => 24
  | .smem => 1
  | _ => 0

abbrev bufTy : (tb : Table) → Fin (tcTables nBuf tb) → BufTy
  | .hbm, ⟨0, _⟩ => ⟨S1x1, .f32⟩
  | .hbm, ⟨1, _⟩ => ⟨S2048x1920, .f32⟩
  | .hbm, ⟨2, _⟩ => ⟨S1920, .f32⟩
  | .hbm, ⟨3, _⟩ => ⟨S1920x5120, .fp8e4m3⟩
  | .hbm, ⟨4, _⟩ => ⟨S5120, .f32⟩
  | .hbm, ⟨5, _⟩ => ⟨S1920x5120, .fp8e4m3⟩
  | .hbm, ⟨6, _⟩ => ⟨S5120, .f32⟩
  | .hbm, ⟨7, _⟩ => ⟨S5120x1920, .fp8e4m3⟩
  | .hbm, ⟨8, _⟩ => ⟨S1920, .f32⟩
  | .hbm, ⟨9, _⟩ => ⟨S1x1920, .f32⟩
  | .hbm, ⟨10, _⟩ => ⟨S1x5120, .f32⟩
  | .hbm, ⟨11, _⟩ => ⟨S1x5120, .f32⟩
  | .hbm, ⟨12, _⟩ => ⟨S1x1920, .f32⟩
  | .hbm, ⟨13, _⟩ => ⟨S2048x1920, .fp8e4m3⟩
  | .hbm, ⟨14, _⟩ => ⟨S2048x5120, .f32⟩
  | .hbm, ⟨15, _⟩ => ⟨S2048x5120, .f32⟩
  | .hbm, ⟨16, _⟩ => ⟨S2048x5120, .fp8e4m3⟩
  | .hbm, ⟨17, _⟩ => ⟨S2048x1, .f32⟩
  | .hbm, ⟨18, _⟩ => ⟨S2048x1920, .f32⟩
  | .hbm, ⟨19, _⟩ => ⟨S2048x1920, .bf16⟩
  | .local _ .vmem, ⟨0, _⟩ => ⟨S128x1920, .f32⟩
  | .local _ .vmem, ⟨1, _⟩ => ⟨S128x1920, .f32⟩
  | .local _ .vmem, ⟨2, _⟩ => ⟨S1x1920, .f32⟩
  | .local _ .vmem, ⟨3, _⟩ => ⟨S1920x5120, .fp8e4m3⟩
  | .local _ .vmem, ⟨4, _⟩ => ⟨S1x5120, .f32⟩
  | .local _ .vmem, ⟨5, _⟩ => ⟨S1920x5120, .fp8e4m3⟩
  | .local _ .vmem, ⟨6, _⟩ => ⟨S1x5120, .f32⟩
  | .local _ .vmem, ⟨7, _⟩ => ⟨S5120x1920, .fp8e4m3⟩
  | .local _ .vmem, ⟨8, _⟩ => ⟨S1x1920, .f32⟩
  | .local _ .vmem, ⟨9, _⟩ => ⟨S128x1920, .fp8e4m3⟩
  | .local _ .vmem, ⟨10, _⟩ => ⟨S128x1920, .fp8e4m3⟩
  | .local _ .vmem, ⟨11, _⟩ => ⟨S128x5120, .f32⟩
  | .local _ .vmem, ⟨12, _⟩ => ⟨S128x5120, .f32⟩
  | .local _ .vmem, ⟨13, _⟩ => ⟨S128x5120, .f32⟩
  | .local _ .vmem, ⟨14, _⟩ => ⟨S128x5120, .f32⟩
  | .local _ .vmem, ⟨15, _⟩ => ⟨S128x5120, .fp8e4m3⟩
  | .local _ .vmem, ⟨16, _⟩ => ⟨S128x5120, .fp8e4m3⟩
  | .local _ .vmem, ⟨17, _⟩ => ⟨S128x1, .f32⟩
  | .local _ .vmem, ⟨18, _⟩ => ⟨S128x1, .f32⟩
  | .local _ .vmem, ⟨19, _⟩ => ⟨S128x1920, .f32⟩
  | .local _ .vmem, ⟨20, _⟩ => ⟨S128x1920, .f32⟩
  | .local _ .vmem, ⟨21, _⟩ => ⟨S128x1920, .bf16⟩
  | .local _ .vmem, ⟨22, _⟩ => ⟨S128x1920, .bf16⟩
  | .local _ .vmem, ⟨23, _⟩ => ⟨S128x5120, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1920x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5120x1920 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1920 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1920 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x5120 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x5120 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1920 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1920 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "inv_fp8_max" => some ((448⁻¹ : ℝ) : EReal)
  | _ => none
-- ==== ReferenceIdeal.lean ====
abbrev S1x1 : Shape := ⟨2, ![1, 1]⟩
abbrev S2048x1920 : Shape := ⟨2, ![2048, 1920]⟩
abbrev S1920 : Shape := ⟨1, ![1920]⟩
abbrev S1920x5120 : Shape := ⟨2, ![1920, 5120]⟩
abbrev S5120 : Shape := ⟨1, ![5120]⟩
abbrev S5120x1920 : Shape := ⟨2, ![5120, 1920]⟩
abbrev S1x1920 : Shape := ⟨2, ![1, 1920]⟩
abbrev S1x5120 : Shape := ⟨2, ![1, 5120]⟩
abbrev S2048x5120 : Shape := ⟨2, ![2048, 5120]⟩
abbrev S2048x1 : Shape := ⟨2, ![2048, 1]⟩
abbrev S2048 : Shape := ⟨1, ![2048]⟩

abbrev nBuf : Space → Nat
  | .hbm => 20
  | .vmem => 16
  | .smem => 0
  | _ => 0

abbrev bufTy : (tb : Table) → Fin (tcTables nBuf tb) → BufTy
  | .hbm, ⟨0, _⟩ => ⟨S1x1, .f32⟩
  | .hbm, ⟨1, _⟩ => ⟨S2048x1920, .f32⟩
  | .hbm, ⟨2, _⟩ => ⟨S1920, .f32⟩
  | .hbm, ⟨3, _⟩ => ⟨S1920x5120, .fp8e4m3⟩
  | .hbm, ⟨4, _⟩ => ⟨S5120, .f32⟩
  | .hbm, ⟨5, _⟩ => ⟨S1920x5120, .fp8e4m3⟩
  | .hbm, ⟨6, _⟩ => ⟨S5120, .f32⟩
  | .hbm, ⟨7, _⟩ => ⟨S5120x1920, .fp8e4m3⟩
  | .hbm, ⟨8, _⟩ => ⟨S1920, .f32⟩
  | .hbm, ⟨9, _⟩ => ⟨S1x1920, .f32⟩
  | .hbm, ⟨10, _⟩ => ⟨S1x5120, .f32⟩
  | .hbm, ⟨11, _⟩ => ⟨S1x5120, .f32⟩
  | .hbm, ⟨12, _⟩ => ⟨S1x1920, .f32⟩
  | .hbm, ⟨13, _⟩ => ⟨S2048x1920, .fp8e4m3⟩
  | .hbm, ⟨14, _⟩ => ⟨S2048x5120, .f32⟩
  | .hbm, ⟨15, _⟩ => ⟨S2048x5120, .f32⟩
  | .hbm, ⟨16, _⟩ => ⟨S2048x5120, .fp8e4m3⟩
  | .hbm, ⟨17, _⟩ => ⟨S2048x1, .f32⟩
  | .hbm, ⟨18, _⟩ => ⟨S2048x1920, .f32⟩
  | .hbm, ⟨19, _⟩ => ⟨S2048x1920, .bf16⟩
  | .local _ .vmem, ⟨0, _⟩ => ⟨S1x1, .f32⟩
  | .local _ .vmem, ⟨1, _⟩ => ⟨S2048x1920, .f32⟩
  | .local _ .vmem, ⟨2, _⟩ => ⟨S1x1920, .f32⟩
  | .local _ .vmem, ⟨3, _⟩ => ⟨S1920x5120, .fp8e4m3⟩
  | .local _ .vmem, ⟨4, _⟩ => ⟨S1x5120, .f32⟩
  | .local _ .vmem, ⟨5, _⟩ => ⟨S1920x5120, .fp8e4m3⟩
  | .local _ .vmem, ⟨6, _⟩ => ⟨S1x5120, .f32⟩
  | .local _ .vmem, ⟨7, _⟩ => ⟨S5120x1920, .fp8e4m3⟩
  | .local _ .vmem, ⟨8, _⟩ => ⟨S1x1920, .f32⟩
  | .local _ .vmem, ⟨9, _⟩ => ⟨S2048x1920, .fp8e4m3⟩
  | .local _ .vmem, ⟨10, _⟩ => ⟨S2048x5120, .f32⟩
  | .local _ .vmem, ⟨11, _⟩ => ⟨S2048x5120, .f32⟩
  | .local _ .vmem, ⟨12, _⟩ => ⟨S2048x5120, .fp8e4m3⟩
  | .local _ .vmem, ⟨13, _⟩ => ⟨S2048x1, .f32⟩
  | .local _ .vmem, ⟨14, _⟩ => ⟨S2048x1920, .f32⟩
  | .local _ .vmem, ⟨15, _⟩ => ⟨S2048x1920, .bf16⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5120x1920 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1920 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1920 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x1920 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x1920 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Norm.lean ====
abbrev S2x1024x1920 : Shape := ⟨3, ![2, 1024, 1920]⟩
abbrev S1920 : Shape := ⟨1, ![1920]⟩
abbrev S2048x1920 : Shape := ⟨2, ![2048, 1920]⟩
abbrev S1x1920 : Shape := ⟨2, ![1, 1920]⟩
abbrev S1x1 : Shape := ⟨2, ![1, 1]⟩
abbrev S2048x128 : Shape := ⟨2, ![2048, 128]⟩
abbrev S8x128 : Shape := ⟨2, ![8, 128]⟩
abbrev S128x128 : Shape := ⟨2, ![128, 128]⟩
abbrev S1x128 : Shape := ⟨2, ![1, 128]⟩
abbrev S16x8x128 : Shape := ⟨3, ![16, 8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 6
  | .vmem => 4
  | .smem => 1
  | _ => 0

abbrev bufTy : (tb : Table) → Fin (tcTables nBuf tb) → BufTy
  | .hbm, ⟨0, _⟩ => ⟨S2x1024x1920, .bf16⟩
  | .hbm, ⟨1, _⟩ => ⟨S1920, .f32⟩
  | .hbm, ⟨2, _⟩ => ⟨S2048x1920, .bf16⟩
  | .hbm, ⟨3, _⟩ => ⟨S1x1920, .f32⟩
  | .hbm, ⟨4, _⟩ => ⟨S2048x1920, .fp8e4m3⟩
  | .hbm, ⟨5, _⟩ => ⟨S1x1, .f32⟩
  | .local _ .vmem, ⟨0, _⟩ => ⟨S2048x1920, .bf16⟩
  | .local _ .vmem, ⟨1, _⟩ => ⟨S1x1920, .f32⟩
  | .local _ .vmem, ⟨2, _⟩ => ⟨S2048x1920, .fp8e4m3⟩
  | .local _ .vmem, ⟨3, _⟩ => ⟨S2048x128, .f32⟩
  | .local _ .smem, ⟨0, _⟩ => ⟨S1x1, .f32⟩
  | _, _ => ⟨S2x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  v16
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v18 : Index := Scalar.indexCast v17
  let c0_11 : Index := 0#32
  ![v18.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v22 : Index := Scalar.indexCast v17
  let c128 : Index := 128#32
  ![v22.toNat, 128]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v26 : Index := Scalar.indexCast v17
  let c256 : Index := 256#32
  ![v26.toNat, 256]
def k0_off4 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v30 : Index := Scalar.indexCast v17
  let c384 : Index := 384#32
  ![v30.toNat, 384]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v34 : Index := Scalar.indexCast v17
  let c512 : Index := 512#32
  ![v34.toNat, 512]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v38 : Index := Scalar.indexCast v17
  let c640 : Index := 640#32
  ![v38.toNat, 640]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v42 : Index := Scalar.indexCast v17
  let c768 : Index := 768#32
  ![v42.toNat, 768]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v46 : Index := Scalar.indexCast v17
  let c896 : Index := 896#32
  ![v46.toNat, 896]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v50 : Index := Scalar.indexCast v17
  let c1024 : Index := 1024#32
  ![v50.toNat, 1024]
def k0_off10 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v54 : Index := Scalar.indexCast v17
  let c1152 : Index := 1152#32
  ![v54.toNat, 1152]
def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v58 : Index := Scalar.indexCast v17
  let c1280 : Index := 1280#32
  ![v58.toNat, 1280]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v62 : Index := Scalar.indexCast v17
  let c1408 : Index := 1408#32
  ![v62.toNat, 1408]
def k0_off13 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v66 : Index := Scalar.indexCast v17
  let c1536 : Index := 1536#32
  ![v66.toNat, 1536]
def k0_off14 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v70 : Index := Scalar.indexCast v17
  let c1664 : Index := 1664#32
  ![v70.toNat, 1664]
def k0_off15 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v74 : Index := Scalar.indexCast v17
  let c1792 : Index := 1792#32
  ![v74.toNat, 1792]
def k0_off16 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v16 : BitVec 32 := Scalar.muli arg5 c128_i32
  let v17 : BitVec 32 := v16
  let v154 : Index := Scalar.indexCast v17
  let c0_16 : Index := 0#32
  ![v154.toNat, 0]
@[reducible] def k0_t2_loop : Scf.Loop 32 :=
  let c0_i32_7 : BitVec 32 := 0#32
  let c16_i32_8 : BitVec 32 := 16#32
  let v15 : BitVec 32 := Scalar.addi c0_i32_7 c16_i32_8
  let c1_i32_9 : BitVec 32 := 1#32
  ⟨c0_i32_7, v15, c1_i32_9⟩
def k0_mult2 (k0_t2 : Fin k0_t2_loop.trips) : BitVec 32 :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  v16
def k0_off17 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v18 : Index := Scalar.indexCast v17
  let c0_11 : Index := 0#32
  ![v18.toNat, 0]
def k0_off18 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v20 : Index := Scalar.indexCast v17
  let c0_12 : Index := 0#32
  ![v20.toNat, 0]
def k0_off19 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v38 : Index := Scalar.indexCast v17
  let c128 : Index := 128#32
  ![v38.toNat, 128]
def k0_off20 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v56 : Index := Scalar.indexCast v17
  let c256 : Index := 256#32
  ![v56.toNat, 256]
def k0_off21 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v74 : Index := Scalar.indexCast v17
  let c384 : Index := 384#32
  ![v74.toNat, 384]
def k0_off22 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v92 : Index := Scalar.indexCast v17
  let c512 : Index := 512#32
  ![v92.toNat, 512]
def k0_off23 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v110 : Index := Scalar.indexCast v17
  let c640 : Index := 640#32
  ![v110.toNat, 640]
def k0_off24 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v128 : Index := Scalar.indexCast v17
  let c768 : Index := 768#32
  ![v128.toNat, 768]
def k0_off25 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v146 : Index := Scalar.indexCast v17
  let c896 : Index := 896#32
  ![v146.toNat, 896]
def k0_off26 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v164 : Index := Scalar.indexCast v17
  let c1024 : Index := 1024#32
  ![v164.toNat, 1024]
def k0_off27 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v182 : Index := Scalar.indexCast v17
  let c1152 : Index := 1152#32
  ![v182.toNat, 1152]
def k0_off28 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v200 : Index := Scalar.indexCast v17
  let c1280 : Index := 1280#32
  ![v200.toNat, 1280]
def k0_off29 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v218 : Index := Scalar.indexCast v17
  let c1408 : Index := 1408#32
  ![v218.toNat, 1408]
def k0_off30 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v236 : Index := Scalar.indexCast v17
  let c1536 : Index := 1536#32
  ![v236.toNat, 1536]
def k0_off31 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v254 : Index := Scalar.indexCast v17
  let c1664 : Index := 1664#32
  ![v254.toNat, 1664]
def k0_off32 (k0_t2 : Fin k0_t2_loop.trips) : Fin 2 → Nat :=
  let c0_i32_7 : BitVec 32 := 0#32
  let c1_i32_9 : BitVec 32 := 1#32
  let arg5 : BitVec 32 := Scf.iv c0_i32_7 c1_i32_9 k0_t2
  let c128_i32 : BitVec 32 := 128#32
  let v16 : BitVec 32 := Scalar.muli arg5 c128_i32
  let v17 : BitVec 32 := v16
  let v272 : Index := Scalar.indexCast v17
  let c1792 : Index := 1792#32
  ![v272.toNat, 1792]
abbrev stage0_0 : Fin 1 → Memref sig .tc .vmem S2048x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormIdeal.lean ====
variable {F : FTy → Type} [FloatOps F] [Named F]
def κ : String → Option EReal := fun
  | "inv_fp8_max" => some ((448⁻¹ : ℝ) : EReal)
  | "inv_width" => some ((1920⁻¹ : ℝ) : EReal)
  | _ => none
-- ==== NormReferenceIdeal.lean ====
abbrev S2x1024x1920 : Shape := ⟨3, ![2, 1024, 1920]⟩
abbrev S1920 : Shape := ⟨1, ![1920]⟩
abbrev S2048x1920 : Shape := ⟨2, ![2048, 1920]⟩
abbrev S1x1920 : Shape := ⟨2, ![1, 1920]⟩
abbrev S1x1 : Shape := ⟨2, ![1, 1]⟩
abbrev S2048 : Shape := ⟨1, ![2048]⟩
abbrev S2048x1 : Shape := ⟨2, ![2048, 1]⟩
abbrev S1x2048x1920 : Shape := ⟨3, ![1, 2048, 1920]⟩
abbrev S1 : Shape := ⟨1, ![1]⟩
abbrev S1x1x1 : Shape := ⟨3, ![1, 1, 1]⟩

abbrev nBuf : Space → Nat
  | .hbm => 6
  | .vmem => 3
  | .smem => 1
  | _ => 0

abbrev bufTy : (tb : Table) → Fin (tcTables nBuf tb) → BufTy
  | .hbm, ⟨0, _⟩ => ⟨S2x1024x1920, .bf16⟩
  | .hbm, ⟨1, _⟩ => ⟨S1920, .f32⟩
  | .hbm, ⟨2, _⟩ => ⟨S2048x1920, .bf16⟩
  | .hbm, ⟨3, _⟩ => ⟨S1x1920, .f32⟩
  | .hbm, ⟨4, _⟩ => ⟨S2048x1920, .fp8e4m3⟩
  | .hbm, ⟨5, _⟩ => ⟨S1x1, .f32⟩
  | .local _ .vmem, ⟨0, _⟩ => ⟨S2048x1920, .bf16⟩
  | .local _ .vmem, ⟨1, _⟩ => ⟨S1x1920, .f32⟩
  | .local _ .vmem, ⟨2, _⟩ => ⟨S2048x1920, .fp8e4m3⟩
  | .local _ .smem, ⟨0, _⟩ => ⟨S1x1, .f32⟩
  | _, _ => ⟨S2x1024x1920, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.NormRun.lean ====
/- The input's norm, run once on any buffers. The generated run of this program would state what the second
   loop stores through what the scratch held before the call. Here it is stated through what the first loop wrote there: the first
   loop writes all of the scratch, so what it held before does not matter. -/
module

public import proofs.«01_k».proof.Proof.Gen.Norm.Frame.Runs
public import Idealize.ShloMosaic.Lib.Claim

@[expose] public section

set_option maxRecDepth 16384

noncomputable section

namespace Cert.Norm.Hand

open Cert.Norm Cert.Norm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first loop leaves in the scratch -/

/-- One trip of the first loop writes one block of 128 rows of the scratch. -/
theorem trip1_piece (𝒱 : Variants) (bd : Option 𝒱.V) (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (X0 : BufTy.Contents (Elt F) arg0.view.ty) (X1 : BufTy.Contents (Elt F) arg1.view.ty) (k : Fin k0_t1_loop.trips) (acc : FVec F S8x128 .f32) :
    ∃ v, tripL_k0_t1 𝒱 c bd arg0 harg0 arg1 harg1 arg2 harg2 arg3 harg3 arg4 harg4 X0 X1 k acc
      = [⟨Rect.unit (s := S2048x128) (k0_off16 k) S128x128.size (k0_off16_inb k), v⟩] := by
  unfold tripL_k0_t1 trip_k0_t1
  exact ⟨_, rfl⟩

/-- Before trip `k` the blocks of the trips before it cover the first `128 * k` rows. -/
theorem st1_cover (𝒱 : Variants) (bd : Option 𝒱.V) (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (X0 : BufTy.Contents (Elt F) arg0.view.ty) (X1 : BufTy.Contents (Elt F) arg1.view.ty) (init : FVec F S8x128 .f32) :
    ∀ k : ℕ, k ≤ 16 → ∀ y : S2048x128.Idx, (y 0).val < 128 * k →
      ∃ p ∈ (st_k0_t1 𝒱 c bd arg0 harg0 arg1 harg1 arg2 harg2 arg3 harg3 arg4 harg4 X0 X1 init k).2, y ∈ p.1.set
  | 0, _, y, h => absurd h (by omega)
  | k + 1, hk, y, h => by
    have ht : k < k0_t1_loop.trips := by rw [show k0_t1_loop.trips = 16 from by decide]; omega
    have e := st_k0_t1_succ 𝒱 c bd arg0 harg0 arg1 harg1 arg2 harg2 arg3 harg3 arg4 harg4 X0 X1 init ⟨k, ht⟩
    dsimp only at e
    rw [e]
    obtain ⟨v, hv⟩ := trip1_piece 𝒱 bd c arg0 harg0 arg1 harg1 arg2 harg2 arg3 harg3 arg4 harg4 X0 X1 ⟨k, ht⟩ (st_k0_t1 𝒱 c bd arg0 harg0 arg1 harg1 arg2 harg2 arg3 harg3 arg4 harg4 X0 X1 init k).1
    dsimp only
    rw [hv]
    by_cases hy : (y 0).val < 128 * k
    · obtain ⟨p, hp, hpy⟩ := st1_cover 𝒱 bd c arg0 harg0 arg1 harg1 arg2 harg2 arg3 harg3 arg4 harg4 X0 X1 init k (by omega) y hy
      exact ⟨p, List.mem_append_right _ hp, hpy⟩
    · refine ⟨_, List.mem_append_left _ (List.mem_singleton.mpr rfl), ?_⟩
      rw [Rect.mem_set_unit]
      have h1 : (y 1).val < 128 := (y 1).isLt
      intro a
      have e16 := k0_off16_eq ⟨k, ht⟩
      rw [e16]
      match a with
      | ⟨0, _⟩ => exact ⟨by show 128 * k ≤ (y 0).val; omega, by show (y 0).val < 128 * k + 128; omega⟩
      | ⟨1, _⟩ => exact ⟨Nat.zero_le _, by show (y 1).val < 0 + 128; omega⟩

/-- So after the last trip the scratch's contents do not depend on what it held before. -/
theorem st1_writes (𝒱 : Variants) (bd : Option 𝒱.V) (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (X0 : BufTy.Contents (Elt F) arg0.view.ty) (X1 : BufTy.Contents (Elt F) arg1.view.ty) (init : FVec F S8x128 .f32)
    (f : BufTy.Contents (Elt F) arg4.view.ty) :
    arg4.view.writes (Elt F) f (st_k0_t1 𝒱 c bd arg0 harg0 arg1 harg1 arg2 harg2 arg3 harg3 arg4 harg4 X0 X1 init (Scf.trips k0_t1_loop.lb k0_t1_loop.ub k0_t1_loop.st)).2
      = harg4.unread (View.canon (st_k0_t1 𝒱 c bd arg0 harg0 arg1 harg1 arg2 harg2 arg3 harg3 arg4 harg4 X0 X1 init (Scf.trips k0_t1_loop.lb k0_t1_loop.ub k0_t1_loop.st)).2) :=
  harg4.eq_unread (View.read_writes_eq_canon _ _ _ fun y => by
    rw [show (Scf.trips k0_t1_loop.lb k0_t1_loop.ub k0_t1_loop.st) = 16 from by decide]
    exact st1_cover 𝒱 bd c arg0 harg0 arg1 harg1 arg2 harg2 arg3 harg3 arg4 harg4 X0 X1 init 16 le_rfl y (y 0).isLt)

/-- What the first loop leaves: the lane maxima it carries, and the blocks written to the scratch (last first). -/
def after1 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) :=
  st_k0_t1 (F := F) Variants.none c none arg0 harg0 arg1 harg1 arg2 harg2 arg3 harg3 arg4 harg4 (harg0.unread x0) (harg1.unread x1) k0_pay1
    (Scf.trips k0_t1_loop.lb k0_t1_loop.ub k0_t1_loop.st)

/-- What the second loop leaves in the codes' buffer, block by block (last first). -/
def left2 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) : List (View.Piece (Elt F) S2048x1920 .fp8e4m3) :=
  pb_k0_t2 (F := F) Variants.none c none arg0 harg0 arg1 harg1 arg2 harg2 arg3 harg3 arg4 harg4 (after1 c arg0 harg0 arg1 harg1 arg2 harg2 arg3 harg3 arg4 harg4 x0 x1).1 (harg0.unread x0) (harg1.unread x1)
    (harg4.unread (View.canon (after1 c arg0 harg0 arg1 harg1 arg2 harg2 arg3 harg3 arg4 harg4 x0 x1).2))
    (Scf.trips k0_t2_loop.lb k0_t2_loop.ub k0_t2_loop.st)

/-- What the body's stores leave in each output's buffer, as pieces (last first), with the proof that the body, on
    whole buffers holding the inputs, runs to its end and leaves those pieces. The second loop's pieces are stated
    through what the first loop wrote to the scratch (`st1_writes`), so they do not mention what it held before. -/
noncomputable def kernelRun0_A (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) :
    Σ' (L2 : List (View.Piece (Elt F) S2048x1920 .fp8e4m3)), { L3 : List (View.Piece (Elt F) S1x1 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ d, owns (c : Thread nD τ) arg4 fullShare d)) -∗ K ⟨⟩))
          ⊢ wp frame (wpE (defs₀ (F := F)) Variants.none c none) E (cc0_norm1 arg0 harg0 arg1 harg1 arg2 harg2 arg3 harg3 arg4 harg4) K } := by
  refine ⟨left2 c arg0 harg0 arg1 harg1 arg2 harg2 arg3 harg3 arg4 harg4 x0 x1, ?_, fun E K => ?run⟩
  case run =>
    simp only [cc0_norm1_eq_skeleton]; unfold cc0_norm1_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg0.eq_unread hf0; obtain rfl := harg1.eq_unread hf1
    sl_exec
    rw [st1_writes]
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    iexists _, _; isplitr; swap; · iexact HS0
    ipureintro; rfl

end Cert.Norm.Hand

end
-- ==== Proof.NormFrame.lean ====
/- The input's norm, the whole program: it runs to its end and leaves its arguments and every semaphore as they were. The
   text follows the generated modules of the other programs, over the run of NormRun. -/
module

public import proofs.«01_k».proof.Proof.NormRun
public import Idealize.ShloMosaic.Lib.Claim

@[expose] public section

set_option maxRecDepth 16384

noncomputable section

namespace Cert.Norm.Hand

open Cert.Norm Cert.Norm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run stores in output 2 covers all of it. -/
theorem cover0_A_2 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) (y : S2048x1920.Idx) :
    ∃ pc ∈ (kernelRun0_A c arg0 harg0 arg1 harg1 arg2 harg2 arg3 harg3 arg4 harg4 x0 x1).1, y ∈ pc.1.set :=
  View.cover_of_tiledL (kernelRun0_A c arg0 harg0 arg1 harg1 arg2 harg2 arg3 harg3 arg4 harg4 x0 x1).1 S128x128.size (by sl_kernel_rfl) y

/-- What the run leaves in output 2's buffer. -/
def out0_A_2 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) : Vec F S2048x1920 .fp8e4m3 :=
  VO0_2.read (Elt F) (VO0_2.writes (Elt F) VO0_2.junk (kernelRun0_A c arg0 harg0 arg1 harg1 arg2 harg2 arg3 harg3 arg4 harg4 x0 x1).1)

/-- What the run stores in output 3 covers all of it. -/
theorem cover0_A_3 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) (y : S1x1.Idx) :
    ∃ pc ∈ (kernelRun0_A c arg0 harg0 arg1 harg1 arg2 harg2 arg3 harg3 arg4 harg4 x0 x1).2.1, y ∈ pc.1.set :=
  View.cover_of_tiledL (kernelRun0_A c arg0 harg0 arg1 harg1 arg2 harg2 arg3 harg3 arg4 harg4 x0 x1).2.1 S1x1.size (by sl_kernel_rfl) y

/-- What the run leaves in output 3's buffer. -/
def out0_A_3 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) : Vec F S1x1 .f32 :=
  VO0_3.read (Elt F) (VO0_3.writes (Elt F) VO0_3.junk (kernelRun0_A c arg0 harg0 arg1 harg1 arg2 harg2 arg3 harg3 arg4 harg4 x0 x1).2.1)

/-! ## What the outputs hold after each point -/

/-- What the outputs' buffers hold after the body at point `t`. -/
def outsAt0 (c : Dev nD) (t : Fin cfg0.N) : Vec F S2048x1920 .fp8e4m3 × Vec F S1x1 .f32 :=
  (out0_A_2 c (ms0_0 t) (hs0_0 t) (ms0_1 t) (hs0_1 t) (ms0_2 t) (hs0_2 t) (ms0_3 t) (hs0_3 t) scM0_0 (Memref.isWhole_whole _) (iblk m c 0 t) (iblk m c 1 t), out0_A_3 c (ms0_0 t) (hs0_0 t) (ms0_1 t) (hs0_1 t) (ms0_2 t) (hs0_2 t) (ms0_3 t) (hs0_3 t) scM0_0 (Memref.isWhole_whole _) (iblk m c 0 t) (iblk m c 1 t))

/-! ## The pipeline's proof data -/

/-- On core `c`: the arrays as the call finds them; after the body at point `t` each input's buffer at its block and the outputs' at
    `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' buffers hold their blocks, so the run applies; the scratch has some contents before and some
    after; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_2 out0_A_3; (try dsimp only)
  iintro ⟨⟨HS0, Hg⟩, Ho, ⟨%d0, H0⟩, ⟨%d1, H1⟩, ⟨%d2, H2⟩, ⟨%d3, H3⟩⟩
  iapply ((kernelRun0_A c _ _ _ _ _ _ _ _ _ _ (iblk m c 0 t) (iblk m c 1 t)).2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _)
  unfold owns; iexists _; isplitr
  swap; · iexact H3
  ipureintro; exact View.read_writes_of_cover _ _ _ _ _ (cover0_A_3 c _ _ _ _ _ _ _ _ _ _ _ _)

/-- The body that the call runs at point `t`. -/
theorem defs₀_row (t : Fin cfg0.N) :
    defs₀ (F := F) .tc cfg0.body (cfg0.bodyArgs t (cfg0.slots t)) = bodyAt0 t := by
  unfold defs₀; rw [Defs.onTc_tc]

/-- The body does so at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs to its end, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program runs to its end, every array of the call at what `dats` says, every other array as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The run ends, the arguments are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Norm.Hand

end
-- ==== Proof.Pieces.lean ====
/- One block of the kernel, in a small vocabulary. The generated body reads each weight in slices of 512 (or 256) columns and
   names its intermediate values one by one; here the values that one block stores are lists of slices, each a function
   of the column it starts at. Nothing is evaluated: the element type is any. -/
module

public import proofs.«01_k».proof.Proof.Gen.KernelIdeal.Value
public import Idealize.ShloMosaic.Lib.Pointwise.Index

@[expose] public section

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F] [Named F]

/-! ## The vocabulary -/

/-- A rectangle of all `n` rows and the columns from `o` to `o + k` lies within an array of `n` rows and `m` columns. -/
theorem inb {n m k o : ℕ} (h : o + k ≤ m) :
    ∀ a, (![0, o] : Fin 2 → ℕ) a + (⟨2, ![n, k]⟩ : Shape).size a ≤ (⟨2, ![n, m]⟩ : Shape).size a := by
  intro a; fin_cases a
  · exact (Nat.zero_add n).le
  · exact h

/-- The columns from `o` to `o + k` of an array. -/
abbrev cols {n m : ℕ} {e : EltTy} (X : Vec F ⟨2, ![n, m]⟩ e) (k o : ℕ) (h : o + k ≤ m) : Vec F ⟨2, ![n, k]⟩ e :=
  View.ld X (Rect.unit ![0, o] (⟨2, ![n, k]⟩ : Shape).size (inb h))

/-- The one scalar of a [1, 1] array. -/
def s0 (x0 : Vec F S1x1 .f32) : F .f32 := x0 (ix2 0 0)

/-- 512 columns of the codes `X` times a weight `W`, dequantised by the scalar and the weight's column scales. -/
def proj (s : F .f32) (X : FVec F S128x1920 .fp8e4m3) (W : Vec F S1920x5120 .fp8e4m3) (ws : Vec F S1x5120 .f32) (o : ℕ)
    (h : o + 512 ≤ 5120) : FVec F S128x512 .f32 :=
  k0_pay19 s X (cols W 512 o h) (cols ws 512 o h)

/-- 512 columns of the gated activation. -/
def actC (s : F .f32) (X : FVec F S128x1920 .fp8e4m3) (Wg : Vec F S1920x5120 .fp8e4m3) (gs : Vec F S1x5120 .f32)
    (Wu : Vec F S1920x5120 .fp8e4m3) (us : Vec F S1x5120 .f32) (o : ℕ) (h : o + 512 ≤ 5120) : FVec F S128x512 .f32 :=
  k0_pay64 (proj s X Wg gs o h) (proj s X Wu us o h) (FloatOps.ofBits FTy.f32 0x3F000000#32)

/-- The running maximum of absolute values, 128 lanes to a row, after nine of the ten slices of `f`. -/
def lanes9 (f : ∀ o, o + 512 ≤ 5120 → FVec F S128x512 .f32) : FVec F S128x128 .f32 :=
  k0_pay41 (k0_pay41 (k0_pay41 (k0_pay41 (k0_pay41 (k0_pay41 (k0_pay41 (k0_pay41 (k0_pay41 k0_pay5
    (f 0 (by decide))) (f 512 (by decide))) (f 1024 (by decide))) (f 1536 (by decide))) (f 2048 (by decide))) (f 2560 (by decide)))
    (f 3072 (by decide))) (f 3584 (by decide))) (f 4096 (by decide))

/-- The running maximum after all ten slices. -/
def lanes (f : ∀ o, o + 512 ≤ 5120 → FVec F S128x512 .f32) : FVec F S128x128 .f32 := k0_pay41 (lanes9 f) (f 4608 (by decide))

/-- The row scales from the lanes' maxima. -/
def scaleV (m : FVec F S128x128 .f32) : FVec F S128x1 .f32 :=
  select (cmpf .oeq (shapeCast S128x1 (multiReduction .maximumf [1] S128 m 0xFF800000#32 reduces_S128x128_S128 (.inl rfl) rfl) shapeCasts_S128_S128x1)
      (broadcast S128x1 (Scalar.ofBits .f32 0x00000000#32)))
    (broadcast S128x1 (Scalar.ofBits .f32 0x3F800000#32))
    (mulf (shapeCast S128x1 (multiReduction .maximumf [1] S128 m 0xFF800000#32 reduces_S128x128_S128 (.inl rfl) rfl) shapeCasts_S128_S128x1)
      (broadcast S128x1 (Named.named κ "inv_fp8_max" 0x3B124925#32)))

/-- A block quantised by its row scales. -/
def quantV (s : FVec F S128x1 .f32) (v : Vec F S128x5120 .f32) : FVec F S128x5120 .fp8e4m3 :=
  truncf .fp8e4m3 (minimumf (broadcast S128x5120 (Scalar.ofBits .f32 0x43E00000#32))
    (maximumf (broadcast S128x5120 (Scalar.ofBits .f32 0xC3E00000#32))
      (mulf v (broadcastTo S128x5120 (divf (broadcast S128x1 (Scalar.ofBits .f32 0x3F800000#32)) s) broadcasts_S128x1_S128x5120)))) bitsLt_fp8e4m3_f32

/-- 256 columns of the down projection. -/
def down (s : FVec F S128x1 .f32) (q : FVec F S128x5120 .fp8e4m3) (W : Vec F S5120x1920 .fp8e4m3) (ws : Vec F S1x1920 .f32) (o : ℕ)
    (h : o + 256 ≤ 1920) : FVec F S128x256 .f32 :=
  k0_pay68 s q (cols W 256 o h) (cols ws 256 o h)

/-- The last 128 columns of the down projection. -/
def downTail (s : FVec F S128x1 .f32) (q : FVec F S128x5120 .fp8e4m3) (W : Vec F S5120x1920 .fp8e4m3) (ws : Vec F S1x1920 .f32) :
    FVec F S128x128 .f32 :=
  k0_pay2 s q (cols W 128 1792 (by decide)) (cols ws 128 1792 (by decide))

/-- Ten slices of 512 columns, the last one first. -/
def tens {e : EltTy} (f : ∀ o, o + 512 ≤ 5120 → Vec F S128x512 e) : List (View.Piece (Elt F) S128x5120 e) :=
  [⟨Rect.unit ![0, 4608] S128x512.size (inb (by decide)), f 4608 (by decide)⟩,
   ⟨Rect.unit ![0, 4096] S128x512.size (inb (by decide)), f 4096 (by decide)⟩,
   ⟨Rect.unit ![0, 3584] S128x512.size (inb (by decide)), f 3584 (by decide)⟩,
   ⟨Rect.unit ![0, 3072] S128x512.size (inb (by decide)), f 3072 (by decide)⟩,
   ⟨Rect.unit ![0, 2560] S128x512.size (inb (by decide)), f 2560 (by decide)⟩,
   ⟨Rect.unit ![0, 2048] S128x512.size (inb (by decide)), f 2048 (by decide)⟩,
   ⟨Rect.unit ![0, 1536] S128x512.size (inb (by decide)), f 1536 (by decide)⟩,
   ⟨Rect.unit ![0, 1024] S128x512.size (inb (by decide)), f 1024 (by decide)⟩,
   ⟨Rect.unit ![0, 512] S128x512.size (inb (by decide)), f 512 (by decide)⟩,
   ⟨Rect.unit ![0, 0] S128x512.size (inb (by decide)), f 0 (by decide)⟩]

/-- Seven slices of 256 columns and a last one of 128, the last one first. -/
def eights {e : EltTy} (f : ∀ o, o + 256 ≤ 1920 → Vec F S128x256 e) (t : Vec F S128x128 e) : List (View.Piece (Elt F) S128x1920 e) :=
  [⟨Rect.unit ![0, 1792] S128x128.size (inb (by decide)), t⟩,
   ⟨Rect.unit ![0, 1536] S128x256.size (inb (by decide)), f 1536 (by decide)⟩,
   ⟨Rect.unit ![0, 1280] S128x256.size (inb (by decide)), f 1280 (by decide)⟩,
   ⟨Rect.unit ![0, 1024] S128x256.size (inb (by decide)), f 1024 (by decide)⟩,
   ⟨Rect.unit ![0, 768] S128x256.size (inb (by decide)), f 768 (by decide)⟩,
   ⟨Rect.unit ![0, 512] S128x256.size (inb (by decide)), f 512 (by decide)⟩,
   ⟨Rect.unit ![0, 256] S128x256.size (inb (by decide)), f 256 (by decide)⟩,
   ⟨Rect.unit ![0, 0] S128x256.size (inb (by decide)), f 0 (by decide)⟩]

/-! ## The generated names, read in the vocabulary -/

variable (c : Dev nD) (i : grid0.Coords) (arg1 : Memref sig .tc .smem S1x1 .f32) (harg1 : arg1.IsWhole) (arg2 : Memref sig .tc .vmem S128x1920 .f32) (harg2 : arg2.IsWhole)
  (arg3 : Memref sig .tc .vmem S1x1920 .f32) (harg3 : arg3.IsWhole) (arg4 : Memref sig .tc .vmem S1920x5120 .fp8e4m3) (harg4 : arg4.IsWhole)
  (arg5 : Memref sig .tc .vmem S1x5120 .f32) (harg5 : arg5.IsWhole) (arg6 : Memref sig .tc .vmem S1920x5120 .fp8e4m3) (harg6 : arg6.IsWhole)
  (arg7 : Memref sig .tc .vmem S1x5120 .f32) (harg7 : arg7.IsWhole) (arg8 : Memref sig .tc .vmem S5120x1920 .fp8e4m3) (harg8 : arg8.IsWhole)
  (arg9 : Memref sig .tc .vmem S1x1920 .f32) (harg9 : arg9.IsWhole) (arg10 : Memref sig .tc .vmem S128x1920 .fp8e4m3) (harg10 : arg10.IsWhole)
  (arg11 : Memref sig .tc .vmem S128x5120 .f32) (harg11 : arg11.IsWhole) (arg12 : Memref sig .tc .vmem S128x5120 .f32) (harg12 : arg12.IsWhole)
  (arg13 : Memref sig .tc .vmem S128x5120 .fp8e4m3) (harg13 : arg13.IsWhole) (arg14 : Memref sig .tc .vmem S128x1 .f32) (harg14 : arg14.IsWhole)
  (arg15 : Memref sig .tc .vmem S128x1920 .f32) (harg15 : arg15.IsWhole) (arg16 : Memref sig .tc .vmem S128x1920 .bf16) (harg16 : arg16.IsWhole)
  (arg17 : Memref sig .tc .vmem S128x5120 .f32) (harg17 : arg17.IsWhole)
  (x0 : Vec F S1x1 .f32) (x1 : Vec F S128x1920 .f32) (x2 : Vec F S1x1920 .f32) (x3 : Vec F S1920x5120 .fp8e4m3) (x4 : Vec F S1x5120 .f32)
  (x5 : Vec F S1920x5120 .fp8e4m3) (x6 : Vec F S1x5120 .f32) (x7 : Vec F S5120x1920 .fp8e4m3) (x8 : Vec F S1x1920 .f32)

/-- The codes of the block. -/
abbrev XC := k0_pay4 (s0 x0) x1 x2

/-- The activation's slices of the block. -/
abbrev AC := actC (s0 x0) (XC x0 x1 x2) x3 x4 x5 x6

theorem zero2 : (![0, 0] : Fin 2 → ℕ) = fun _ => 0 := by funext a; fin_cases a <;> rfl

theorem idx11 (a b : S1x1.Idx) : a = b := by
  funext k; fin_cases k
  · exact Subsingleton.elim (α := Fin 1) _ _
  · exact Subsingleton.elim (α := Fin 1) _ _

theorem r_eq : kernelRun0_A.sl.r c arg1 harg1 x0 = s0 x0 := by
  delta kernelRun0_A.sl.r
  rw [View.readAt_eq_ld, harg1.read_unread, View.ld_unit_zero zero2]
  exact congrArg x0 (idx11 _ _)

theorem r_1_eq : kernelRun0_A.sl.r_1 c arg1 harg1 arg2 harg2 arg3 harg3 x0 x1 x2 = XC x0 x1 x2 := by
  delta kernelRun0_A.sl.r_1
  rw [r_eq, View.readAt_eq_ld, harg2.read_unread, View.ld_unit_zero zero2, View.readAt_eq_ld, harg3.read_unread, View.ld_unit_zero zero2]

theorem r_2_eq : kernelRun0_A.sl.r_2 c arg1 harg1 arg2 harg2 arg3 harg3 arg4 harg4 x0 x1 x2 x3 = k0_pay6 (s0 x0) x1 x2 (cols x3 512 0 (by decide)) := by
  delta kernelRun0_A.sl.r_2
  rw [r_eq, View.readAt_eq_ld, harg2.read_unread, View.ld_unit_zero zero2, View.readAt_eq_ld, harg3.read_unread, View.ld_unit_zero zero2,
    View.readAt_eq_ld, harg4.read_unread]

/- The running maximum after one, two, … slices. -/
theorem r_4_eq : kernelRun0_A.sl.r_4 c arg1 harg1 arg2 harg2 arg3 harg3 arg4 harg4 arg5 harg5 arg6 harg6 arg7 harg7 x0 x1 x2 x3 x4 x5 x6 = k0_pay41 k0_pay5 (AC x0 x1 x2 x3 x4 x5 x6 0 (by decide)) := by
  delta kernelRun0_A.sl.r_4 kernelRun0_A.sl.r_3
  simp only [View.readAt_eq_ld, Memref.IsWhole.read_unread, r_eq, r_1_eq, r_2_eq]
  rfl

theorem r_6_eq : kernelRun0_A.sl.r_6 c arg1 harg1 arg2 harg2 arg3 harg3 arg4 harg4 arg5 harg5 arg6 harg6 arg7 harg7 x0 x1 x2 x3 x4 x5 x6 = k0_pay41 (k0_pay41 k0_pay5 (AC x0 x1 x2 x3 x4 x5 x6 0 (by decide))) (AC x0 x1 x2 x3 x4 x5 x6 512 (by decide)) := by
  delta kernelRun0_A.sl.r_6 kernelRun0_A.sl.r_5
  simp only [View.readAt_eq_ld, Memref.IsWhole.read_unread, r_eq, r_1_eq, r_4_eq]
  rfl

theorem r_15_eq : kernelRun0_A.sl.r_15 c arg1 harg1 arg2 harg2 arg3 harg3 arg4 harg4 arg5 harg5 arg6 harg6 arg7 harg7 x0 x1 x2 x3 x4 x5 x6 = k0_pay41 (k0_pay41 (k0_pay41 (k0_pay41 (k0_pay41 k0_pay5 (AC x0 x1 x2 x3 x4 x5 x6 0 (by decide))) (AC x0 x1 x2 x3 x4 x5 x6 512 (by decide))) (AC x0 x1 x2 x3 x4 x5 x6 1024 (by decide))) (AC x0 x1 x2 x3 x4 x5 x6 1536 (by decide))) (AC x0 x1 x2 x3 x4 x5 x6 2048 (by decide)) := by
  delta kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7
  simp only [View.readAt_eq_ld, Memref.IsWhole.read_unread, r_eq, r_1_eq, r_6_eq]
  rfl

theorem r_18_eq : kernelRun0_A.sl.r_18 c arg1 harg1 arg2 harg2 arg3 harg3 arg4 harg4 arg5 harg5 arg6 harg6 arg7 harg7 x0 x1 x2 x3 x4 x5 x6 = k0_pay41 (k0_pay41 (k0_pay41 (k0_pay41 (k0_pay41 (k0_pay41 k0_pay5 (AC x0 x1 x2 x3 x4 x5 x6 0 (by decide))) (AC x0 x1 x2 x3 x4 x5 x6 512 (by decide))) (AC x0 x1 x2 x3 x4 x5 x6 1024 (by decide))) (AC x0 x1 x2 x3 x4 x5 x6 1536 (by decide))) (AC x0 x1 x2 x3 x4 x5 x6 2048 (by decide))) (AC x0 x1 x2 x3 x4 x5 x6 2560 (by decide)) := by
  delta kernelRun0_A.sl.r_18 kernelRun0_A.sl.r_16
  simp only [View.readAt_eq_ld, Memref.IsWhole.read_unread, r_eq, r_1_eq, r_15_eq]
  rfl

theorem r_20_eq : kernelRun0_A.sl.r_20 c arg1 harg1 arg2 harg2 arg3 harg3 arg4 harg4 arg5 harg5 arg6 harg6 arg7 harg7 x0 x1 x2 x3 x4 x5 x6 = k0_pay41 (k0_pay41 (k0_pay41 (k0_pay41 (k0_pay41 (k0_pay41 (k0_pay41 k0_pay5 (AC x0 x1 x2 x3 x4 x5 x6 0 (by decide))) (AC x0 x1 x2 x3 x4 x5 x6 512 (by decide))) (AC x0 x1 x2 x3 x4 x5 x6 1024 (by decide))) (AC x0 x1 x2 x3 x4 x5 x6 1536 (by decide))) (AC x0 x1 x2 x3 x4 x5 x6 2048 (by decide))) (AC x0 x1 x2 x3 x4 x5 x6 2560 (by decide))) (AC x0 x1 x2 x3 x4 x5 x6 3072 (by decide)) := by
  delta kernelRun0_A.sl.r_20 kernelRun0_A.sl.r_19
  simp only [View.readAt_eq_ld, Memref.IsWhole.read_unread, r_eq, r_1_eq, r_18_eq]
  rfl

theorem r_24_eq : kernelRun0_A.sl.r_24 c arg1 harg1 arg2 harg2 arg3 harg3 arg4 harg4 arg5 harg5 arg6 harg6 arg7 harg7 x0 x1 x2 x3 x4 x5 x6 = k0_pay41 (k0_pay41 (k0_pay41 (k0_pay41 (k0_pay41 (k0_pay41 (k0_pay41 (k0_pay41 k0_pay5 (AC x0 x1 x2 x3 x4 x5 x6 0 (by decide))) (AC x0 x1 x2 x3 x4 x5 x6 512 (by decide))) (AC x0 x1 x2 x3 x4 x5 x6 1024 (by decide))) (AC x0 x1 x2 x3 x4 x5 x6 1536 (by decide))) (AC x0 x1 x2 x3 x4 x5 x6 2048 (by decide))) (AC x0 x1 x2 x3 x4 x5 x6 2560 (by decide))) (AC x0 x1 x2 x3 x4 x5 x6 3072 (by decide))) (AC x0 x1 x2 x3 x4 x5 x6 3584 (by decide)) := by
  delta kernelRun0_A.sl.r_24 kernelRun0_A.sl.r_23 kernelRun0_A.sl.r_22 kernelRun0_A.sl.r_21
  simp only [View.readAt_eq_ld, Memref.IsWhole.read_unread, r_eq, r_1_eq, r_20_eq]
  rfl

theorem r_28_eq : kernelRun0_A.sl.r_28 c arg1 harg1 arg2 harg2 arg3 harg3 arg4 harg4 arg5 harg5 arg6 harg6 arg7 harg7 x0 x1 x2 x3 x4 x5 x6 = lanes9 (AC x0 x1 x2 x3 x4 x5 x6) := by
  delta kernelRun0_A.sl.r_28 kernelRun0_A.sl.r_27 kernelRun0_A.sl.r_26 kernelRun0_A.sl.r_25
  simp only [View.readAt_eq_ld, Memref.IsWhole.read_unread, r_eq, r_1_eq, r_24_eq]
  rfl

theorem r_29_eq : kernelRun0_A.sl.r_29 c arg1 harg1 arg2 harg2 arg3 harg3 arg4 harg4 arg5 harg5 x0 x1 x2 x3 x4 = proj (s0 x0) (XC x0 x1 x2) x3 x4 4608 (by decide) := by
  delta kernelRun0_A.sl.r_29
  simp only [View.readAt_eq_ld, Memref.IsWhole.read_unread, r_eq, r_1_eq]
  rfl

theorem r_30_eq : kernelRun0_A.sl.r_30 c arg1 harg1 arg2 harg2 arg3 harg3 arg6 harg6 arg7 harg7 x0 x1 x2 x5 x6 = proj (s0 x0) (XC x0 x1 x2) x5 x6 4608 (by decide) := by
  delta kernelRun0_A.sl.r_30
  simp only [View.readAt_eq_ld, Memref.IsWhole.read_unread, r_eq, r_1_eq]
  rfl

/-- The block's row scales. -/
abbrev SC := scaleV (lanes (AC x0 x1 x2 x3 x4 x5 x6))

theorem pay66_eq (m : FVec F S128x128 .f32) (g u : FVec F S128x512 .f32) (h : F .f32) :
    k0_pay66 m g u h = scaleV (k0_pay41 m (k0_pay64 g u h)) := rfl

theorem pay67_eq (m : FVec F S128x128 .f32) (g u : FVec F S128x512 .f32) (h : F .f32) (v : Vec F S128x5120 .f32) :
    k0_pay67 m g u h v = quantV (k0_pay66 m g u h) v := rfl

theorem r_31_eq : kernelRun0_A.sl.r_31 c arg1 harg1 arg2 harg2 arg3 harg3 arg4 harg4 arg5 harg5 arg6 harg6 arg7 harg7 x0 x1 x2 x3 x4 x5 x6 = SC x0 x1 x2 x3 x4 x5 x6 := by
  delta kernelRun0_A.sl.r_31
  rw [r_28_eq, r_29_eq, r_30_eq, pay66_eq]; rfl

/-- The activation's slices as they are kept: a slice seen as itself. -/
abbrev ACs (o : ℕ) (h : o + 512 ≤ 5120) : FVec F S128x512 .f32 := shapeCast S128x512 (AC x0 x1 x2 x3 x4 x5 x6 o h) shapeCasts_S128x512_S128x512

theorem HS_eq : kernelRun0_A.sl.HS0_10 c arg1 harg1 arg2 harg2 arg3 harg3 arg4 harg4 arg5 harg5 arg6 harg6 arg7 harg7 x0 x1 x2 x3 x4 x5 x6 = tens (F := F) (e := .f32) (ACs x0 x1 x2 x3 x4 x5 x6) := by
  delta kernelRun0_A.sl.HS0_10 kernelRun0_A.sl.r_30 kernelRun0_A.sl.r_29 kernelRun0_A.sl.r_27 kernelRun0_A.sl.r_26 kernelRun0_A.sl.r_25 kernelRun0_A.sl.r_23 kernelRun0_A.sl.r_22 kernelRun0_A.sl.r_21 kernelRun0_A.sl.r_19 kernelRun0_A.sl.r_17 kernelRun0_A.sl.r_16 kernelRun0_A.sl.r_7 kernelRun0_A.sl.r_5 kernelRun0_A.sl.r_3
  simp only [View.readAt_eq_ld, Memref.IsWhole.read_unread, r_eq, r_1_eq, r_2_eq]
  rfl

theorem tens_cover {e : EltTy} (f : ∀ o, o + 512 ≤ 5120 → Vec F S128x512 e) (y : S128x5120.Idx) : ∃ p ∈ tens f, y ∈ p.1.set :=
  View.cover_of_tiledL (tens f) S128x512.size (by sl_kernel_rfl) y

/-- The block's activation codes. -/
abbrev QC := quantV (SC x0 x1 x2 x3 x4 x5 x6) (View.canon (tens (F := F) (e := .f32) (ACs x0 x1 x2 x3 x4 x5 x6)))

theorem v460_eq : kernelRun0_A.sl.v460 c arg1 harg1 arg2 harg2 arg3 harg3 arg4 harg4 arg5 harg5 arg6 harg6 arg7 harg7 arg17 x0 x1 x2 x3 x4 x5 x6 = View.canon (tens (F := F) (e := .f32) (ACs x0 x1 x2 x3 x4 x5 x6)) := by
  delta kernelRun0_A.sl.v460
  rw [HS_eq, View.readCov_eq_canon_ld _ _ _ (tens_cover _), View.ld_unit_zero zero2]

theorem r_32_eq : kernelRun0_A.sl.r_32 c arg1 harg1 arg2 harg2 arg3 harg3 arg4 harg4 arg5 harg5 arg6 harg6 arg7 harg7 arg17 x0 x1 x2 x3 x4 x5 x6 = QC x0 x1 x2 x3 x4 x5 x6 := by
  delta kernelRun0_A.sl.r_32
  rw [pay67_eq, v460_eq]
  exact congrArg (fun s => quantV s _) (r_31_eq c arg1 harg1 arg2 harg2 arg3 harg3 arg4 harg4 arg5 harg5 arg6 harg6 arg7 harg7 x0 x1 x2 x3 x4 x5 x6)

/-! ## What the block stores -/

/- The codes. -/
theorem out9_eq : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon [⟨Rect.unit ![0, 0] S128x1920.size (inb (by decide)), XC x0 x1 x2⟩] := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  rw [← r_1_eq c arg1 harg1 arg2 harg2 arg3 harg3 x0 x1 x2]
  refine congrArg View.canon ?_
  unfold kernelRun0_A
  dsimp only
  rfl

/- The gate projection. -/
theorem out10_eq : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon (tens (F := F) (e := .f32) (proj (s0 x0) (XC x0 x1 x2) x3 x4)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine congrArg View.canon ?_
  unfold kernelRun0_A
  delta kernelRun0_A.sl.r_7 kernelRun0_A.sl.r_5 kernelRun0_A.sl.r_3
  simp only [View.readAt_eq_ld, Memref.IsWhole.read_unread, r_eq, r_1_eq, r_2_eq]
  rfl

/- The up projection. -/
theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon (tens (F := F) (e := .f32) (proj (s0 x0) (XC x0 x1 x2) x5 x6)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine congrArg View.canon ?_
  unfold kernelRun0_A
  simp only [View.readAt_eq_ld, Memref.IsWhole.read_unread, r_eq, r_1_eq]
  rfl

/- The activation's codes. -/
theorem out12_eq : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon ([⟨Rect.unit ![0, 0] S128x5120.size (inb (by decide)), QC x0 x1 x2 x3 x4 x5 x6⟩]) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine congrArg View.canon ?_
  unfold kernelRun0_A
  simp only [View.readAt_eq_ld, Memref.IsWhole.read_unread, r_32_eq]

/- The activation's scales. -/
theorem out13_eq : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon ([⟨Rect.unit ![0, 0] S128x1.size (inb (by decide)), SC x0 x1 x2 x3 x4 x5 x6⟩]) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine congrArg View.canon ?_
  unfold kernelRun0_A
  simp only [View.readAt_eq_ld, Memref.IsWhole.read_unread, r_28_eq, r_29_eq, r_30_eq]
  rfl

/- The down projection. -/
theorem out14_eq : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon (eights (F := F) (e := .f32) (down (SC x0 x1 x2 x3 x4 x5 x6) (QC x0 x1 x2 x3 x4 x5 x6) x7 x8) (downTail (SC x0 x1 x2 x3 x4 x5 x6) (QC x0 x1 x2 x3 x4 x5 x6) x7 x8)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine congrArg View.canon ?_
  unfold kernelRun0_A
  delta kernelRun0_A.sl.r_34 kernelRun0_A.sl.r_35 kernelRun0_A.sl.r_33 kernelRun0_A.sl.cst_231
  simp only [View.readAt_eq_ld, Memref.IsWhole.read_unread, r_31_eq, r_32_eq]
  rfl

/- The residual sum. -/
theorem out15_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = View.canon (eights (F := F) (e := .bf16) (fun o h => k0_pay1 (down (SC x0 x1 x2 x3 x4 x5 x6) (QC x0 x1 x2 x3 x4 x5 x6) x7 x8 o h) (cols x1 256 o h)) (truncf .bf16 (addf (cols x1 128 1792 (by decide)) (downTail (SC x0 x1 x2 x3 x4 x5 x6) (QC x0 x1 x2 x3 x4 x5 x6) x7 x8)) bitsLt_bf16_f32)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  refine congrArg View.canon ?_
  unfold kernelRun0_A
  delta kernelRun0_A.sl.r_37 kernelRun0_A.sl.r_36 kernelRun0_A.sl.r_34 kernelRun0_A.sl.r_35 kernelRun0_A.sl.r_33 kernelRun0_A.sl.cst_231
  simp only [View.readAt_eq_ld, Memref.IsWhole.read_unread, r_31_eq, r_32_eq]
  rfl

end Cert.KernelIdeal.Pieces

end
-- ==== Proof.Rows.lean ====
/- The rows of the quantised MLP block as functions of extended reals: what one row of each result is, as a function of
   that row of the residual stream and of the weights. The reference computes these rows as written here; the laws below
   are what is needed to read the kernel's arrangement of the same arithmetic as these rows.

   The literals stay the bit patterns the programs print: 448 and -448 (the clip's bounds), 1920 (the row's length),
   the mean's epsilon, 1/2, the f32 nearest to 1/sqrt 2, and minus infinity (the maximum's start). -/
module

public import Idealize.ShloMosaic.PureOps.Ideal.Laws
public import Idealize.ShloMosaic.Lib.IdealHost

@[expose] public section

noncomputable section

namespace Cert.Rows

open Idealize.ShloMosaic

/-- The largest fp8 value, 448. -/
abbrev top8 : EReal := Ideal.ofBits .f32 0x43E00000#32
/-- Its negative. -/
abbrev bot8 : EReal := Ideal.ofBits .f32 0xC3E00000#32
/-- The length of a row, 1920. -/
abbrev width : EReal := Ideal.ofBits .f32 0x44F00000#32
/-- The epsilon under the root. -/
abbrev eps : EReal := Ideal.ofBits .f32 0x358637BD#32
/-- One half. -/
abbrev half : EReal := Ideal.ofBits .f32 0x3F000000#32
/-- The f32 nearest to the reciprocal root of two. -/
abbrev rootHalf : EReal := Ideal.ofBits .f32 0x3F3504F3#32
/-- Where the row maximum starts: minus infinity. -/
abbrev lowest : EReal := Ideal.ofBits .f32 0xFF800000#32

/-- Clip to the range of fp8. -/
def clip8 (x : EReal) : EReal := min top8 (max bot8 x)

/-- The root of the mean of squares of a row, epsilon added. -/
def rms {n : ℕ} (h : Fin n → EReal) : EReal := Ideal.sqrt (Ideal.div (∑ x, h x * h x) width + eps)

/-- A row normalised, scaled by `g`, and quantised by `s`. -/
def codes {n : ℕ} (h g : Fin n → EReal) (s : EReal) (j : Fin n) : EReal := clip8 (Ideal.div (Ideal.div (h j) (rms h) * g j) s)

/-- A row of codes times a weight, dequantised by the row's scale `s` and the weight's column scales `ws`. -/
def project {n p : ℕ} (x : Fin n → EReal) (s : EReal) (w : Fin n → Fin p → EReal) (ws : Fin p → EReal) (j : Fin p) : EReal :=
  (∑ k, x k * w k j) * s * ws j

/-- The gated activation of a row: the exact GELU of `g` times `u`. -/
def act {p : ℕ} (g u : Fin p → EReal) (j : Fin p) : EReal :=
  half * g j * (1 - Ideal.erf ((0 - g j) * rootHalf)) * u j

/-- The largest absolute value of a row. -/
def amax {p : ℕ} (a : Fin p → EReal) : EReal := Finset.fold max lowest (fun x => max (a x) (-a x)) Finset.univ

/-- The row's own scale: 1 for a row of zeros, the largest absolute value over 448 otherwise. -/
def scale {p : ℕ} (a : Fin p → EReal) : EReal := if amax a = 0 then 1 else Ideal.div (amax a) top8

/-- A row quantised by its own scale. -/
def quant {p : ℕ} (a : Fin p → EReal) (j : Fin p) : EReal := clip8 (Ideal.div (a j) (scale a))

/-- A projection of the quantised row of the residual stream. -/
def projRow {n p : ℕ} (h g : Fin n → EReal) (s : EReal) (w : Fin n → Fin p → EReal) (ws : Fin p → EReal) (j : Fin p) : EReal :=
  project (codes h g s) s w ws j

/-- The gated activation of a row of the residual stream. -/
def actRow {n p : ℕ} (h g : Fin n → EReal) (s : EReal) (wg : Fin n → Fin p → EReal) (gs : Fin p → EReal) (wu : Fin n → Fin p → EReal)
    (us : Fin p → EReal) (j : Fin p) : EReal :=
  act (projRow h g s wg gs) (projRow h g s wu us) j

/-- The down projection of an activation row, quantised by its own scale. -/
def mlpRow {n p : ℕ} (a : Fin p → EReal) (wd : Fin p → Fin n → EReal) (ds : Fin n → EReal) (j : Fin n) : EReal :=
  project (quant a) (scale a) wd ds j

/-! ## Laws -/

theorem div_eq {x y : EReal} (hy : y ≠ 0) : Ideal.div x y = x * y⁻¹ := by
  unfold Ideal.div; rw [if_neg hy]

theorem div_one_eq {y : EReal} (hy : y ≠ 0) : Ideal.div 1 y = y⁻¹ := by rw [div_eq hy, one_mul]

theorem top8_eq : top8 = ((448 : ℝ) : EReal) := by simp [top8, Ideal.ofBits, Ideal.ieee, -EReal.coe_mul]; norm_num

theorem width_eq : width = ((1920 : ℝ) : EReal) := by simp [width, Ideal.ofBits, Ideal.ieee, -EReal.coe_mul]; norm_num

theorem eps_pos : 0 < eps := by
  have h : eps = (((8796093 : ℝ) / 8796093022208 : ℝ) : EReal) := by
    simp [eps, Ideal.ofBits, Ideal.ieee, -EReal.coe_mul]; norm_num
  rw [h]; exact_mod_cast (by norm_num : (0 : ℝ) < 8796093 / 8796093022208)

theorem lowest_eq : lowest = ⊥ := by simp [lowest, Ideal.ofBits, Ideal.ieee]

theorem mul_self_nonneg' (x : EReal) : 0 ≤ x * x := by
  rcases le_total 0 x with h | h
  · exact mul_nonneg h h
  · exact EReal.mul_nonneg_iff.mpr (Or.inr ⟨h, h⟩)

theorem sqrt_ne_zero {x : EReal} (hx : 0 < x) : Ideal.sqrt x ≠ 0 := by
  induction x with
  | bot => simp at hx
  | top => exact (EReal.top_ne_zero : (⊤ : EReal) ≠ 0)
  | coe r =>
    have hr : 0 < r := by exact_mod_cast hx
    show (if r < 0 then (⊥ : EReal) else (Real.sqrt r : EReal)) ≠ 0
    rw [if_neg hr.not_gt]
    exact_mod_cast (Real.sqrt_pos.mpr hr).ne'

/-- The mean of squares is not negative and epsilon is positive: the root is not zero. -/
theorem rms_ne_zero {n : ℕ} (h : Fin n → EReal) : rms h ≠ 0 := by
  refine sqrt_ne_zero (lt_of_lt_of_le eps_pos ?_)
  have hs : 0 ≤ ∑ x, h x * h x := Finset.sum_nonneg fun x _ => mul_self_nonneg' _
  have hw : width ≠ 0 := by rw [width_eq]; exact_mod_cast (by norm_num : (1920 : ℝ) ≠ 0)
  have hd : 0 ≤ Ideal.div (∑ x, h x * h x) width := by
    rw [div_eq hw, width_eq, ← EReal.coe_inv]
    exact mul_nonneg hs (by exact_mod_cast (by norm_num : (0 : ℝ) ≤ (1920 : ℝ)⁻¹))
  exact le_add_of_nonneg_left hd

/-- The quantised row with the two divisions as multiplications by reciprocals. -/
theorem codes_eq {n : ℕ} (h g : Fin n → EReal) {s : EReal} (hs : s ≠ 0) (j : Fin n) :
    clip8 (h j * Ideal.div 1 (rms h) * g j * Ideal.div 1 s) = codes h g s j := by
  unfold codes
  rw [div_one_eq (rms_ne_zero h), div_one_eq hs, div_eq hs, div_eq (rms_ne_zero h)]

/-- The projection with the two scales multiplied first. -/
theorem project_eq {n p : ℕ} (x : Fin n → EReal) (s : EReal) (w : Fin n → Fin p → EReal) (ws : Fin p → EReal) (j : Fin p) :
    (∑ k, x k * w k j) * (ws j * s) = project x s w ws j := by
  unfold project; rw [mul_comm (ws j), mul_assoc]

/-- The activation with the sum `1 + erf` in place of `1 - erf` of the negative. -/
theorem act_eq {p : ℕ} (g u : Fin p → EReal) (j : Fin p) :
    half * g j * (1 + Ideal.erf (g j * rootHalf)) * u j = act g u j := by
  unfold act
  rw [zero_sub, EReal.neg_mul, Ideal.erf_neg, sub_eq_add_neg, neg_neg]

theorem abs_nonneg' (x : EReal) : 0 ≤ max x (-x) := by
  rcases le_total 0 x with h | h
  · exact le_max_of_le_left h
  · exact le_max_of_le_right (by simpa using h)

theorem amax_le_iff {p : ℕ} (a : Fin p → EReal) (b : EReal) : amax a ≤ b ↔ ∀ j, max (a j) (-a j) ≤ b := by
  unfold amax; rw [Finset.fold_max_le, lowest_eq]; simp

/-- A row's scale is not zero. -/
theorem scale_ne_zero {p : ℕ} (a : Fin p → EReal) : scale a ≠ 0 := by
  unfold scale
  split_ifs with h
  · exact one_ne_zero
  · rw [div_eq (by rw [top8_eq]; exact_mod_cast (by norm_num : (448 : ℝ) ≠ 0)), top8_eq, ← EReal.coe_inv]
    exact mul_ne_zero h (by exact_mod_cast (by norm_num : (448 : ℝ)⁻¹ ≠ 0))

/-- The scale with a multiplication by the exact reciprocal of 448. -/
theorem scale_eq {p : ℕ} (a : Fin p → EReal) :
    (if amax a = 0 then 1 else amax a * ((448⁻¹ : ℝ) : EReal)) = scale a := by
  unfold scale
  rw [div_eq (by rw [top8_eq]; exact_mod_cast (by norm_num : (448 : ℝ) ≠ 0)), top8_eq, ← EReal.coe_inv]

/-- The row quantised by a multiplication with the reciprocal of its scale. -/
theorem quant_eq {p : ℕ} (a : Fin p → EReal) (j : Fin p) :
    clip8 (a j * Ideal.div 1 (scale a)) = quant a j := by
  unfold quant; rw [div_one_eq (scale_ne_zero a), div_eq (scale_ne_zero a)]

end Cert.Rows

end
-- ==== Proof.Block.lean ====
/- The values of one block over the extended reals: row `r` of what a block stores is a row function (Rows.lean) of row `r` of
   the block of the residual stream and of the weights. -/
module

public import proofs.«01_k».proof.Proof.Pieces
public import proofs.«01_k».proof.Proof.Rows
public import Idealize.ShloMosaic.Lib.Pointwise
public import Idealize.ShloMosaic.Lib.Pipeline.ValueKit.Tiles

@[expose] public section

set_option maxRecDepth 16384

noncomputable section

namespace Cert.KernelIdeal.Block

open Cert.KernelIdeal Cert.KernelIdeal.Gen Cert.KernelIdeal.Pieces Cert.Rows Idealize.ShloMosaic

/-! ## Slices -/

theorem cols_apply {n m : ℕ} {e : EltTy} (X : Vec Ideal ⟨2, ![n, m]⟩ e) (k o : ℕ) (h : o + k ≤ m) (r : Fin n) (l : Fin k) :
    cols X k o h (ix2 r l) = X (ix2 r ⟨o + l, by omega⟩) := by
  refine View.ld_unit_apply_of X _ _ _ _ _ ?_
  intro a; fin_cases a
  · exact (Nat.zero_add _).symm
  · rfl

/-- Where a slice that starts at column `o` puts its element at row `r` and lane `l`. -/
theorem emb_cols {n m k o : ℕ} (h : o + k ≤ m) (r : Fin n) (l : Fin k) :
    (Rect.unit (s := ⟨2, ![n, m]⟩) ![0, o] (⟨2, ![n, k]⟩ : Shape).size (inb h)).emb (ix2 r l) = ix2 r ⟨o + l, by omega⟩ := by
  funext a; fin_cases a
  · refine Fin.ext ?_; rw [Rect.emb_apply]; show 0 + 1 * (r : ℕ) = r; omega
  · refine Fin.ext ?_; rw [Rect.emb_apply]; show o + 1 * (l : ℕ) = o + l; omega

/-- A slice whose every element is the one of `G` at its place. -/
theorem piece_eq {n m k o : ℕ} {e : EltTy} (h : o + k ≤ m) (v : Vec Ideal ⟨2, ![n, k]⟩ e) (G : Fin n → Fin m → Elt Ideal e)
    (H : ∀ r l, v (ix2 r l) = G r ⟨o + l, by omega⟩) (x : (⟨2, ![n, k]⟩ : Shape).Idx) :
    v x = (fun y : (⟨2, ![n, m]⟩ : Shape).Idx => G (y 0) (y 1))
      ((Rect.unit (s := ⟨2, ![n, m]⟩) ![0, o] (⟨2, ![n, k]⟩ : Shape).size (inb h)).emb x) := by
  obtain ⟨r, l, rfl⟩ : ∃ r l, x = ix2 r l := ⟨x 0, x 1, eq_ix2 x⟩
  rw [emb_cols h]; exact H r l

/-- What ten slices of 512 columns hold. -/
theorem tens_apply {e : EltTy} (f : ∀ o, o + 512 ≤ 5120 → Vec Ideal S128x512 e) (G : Fin 128 → Fin 5120 → Elt Ideal e)
    (H : ∀ o h r l, f o h (ix2 r l) = G r ⟨o + l, by omega⟩) (r : Fin 128) (j : Fin 5120) :
    View.canon (tens f) (ix2 r j) = G r j := by
  refine View.canon_apply_of_pieces (fun y => G (y 0) (y 1)) (tens f) ?_ (ix2 r j) (tens_cover f _)
  unfold tens
  simp only [List.forall_mem_cons, List.not_mem_nil, false_imp_iff, implies_true, and_true]
  refine ⟨?_, ?_, ?_, ?_, ?_, ?_, ?_, ?_, ?_, ?_⟩ <;> exact piece_eq (by decide) _ G (H _ (by decide))

theorem eights_cover {e : EltTy} (f : ∀ o, o + 256 ≤ 1920 → Vec Ideal S128x256 e) (t : Vec Ideal S128x128 e) (y : S128x1920.Idx) :
    ∃ p ∈ eights f t, y ∈ p.1.set :=
  View.cover_of_tiledBy (eights f t) S128x128.size (by sl_kernel_rfl) y

/-- What seven slices of 256 columns and a last one of 128 hold. -/
theorem eights_apply {e : EltTy} (f : ∀ o, o + 256 ≤ 1920 → Vec Ideal S128x256 e) (t : Vec Ideal S128x128 e)
    (G : Fin 128 → Fin 1920 → Elt Ideal e) (H : ∀ o h r l, f o h (ix2 r l) = G r ⟨o + l, by omega⟩)
    (T : ∀ r (l : Fin 128), t (ix2 r l) = G r ⟨1792 + l, by omega⟩) (r : Fin 128) (j : Fin 1920) :
    View.canon (eights f t) (ix2 r j) = G r j := by
  refine View.canon_apply_of_pieces (fun y => G (y 0) (y 1)) (eights f t) ?_ (ix2 r j) (eights_cover f t _)
  unfold eights
  simp only [List.forall_mem_cons, List.not_mem_nil, false_imp_iff, implies_true, and_true]
  refine ⟨?_, ?_, ?_, ?_, ?_, ?_, ?_, ?_⟩
  · exact piece_eq (by decide) _ G T
  all_goals exact piece_eq (by decide) _ G (H _ (by decide))

/-! ## The payloads at an index -/

variable (x0 : Vec Ideal S1x1 .f32) (x1 : Vec Ideal S128x1920 .f32) (x2 : Vec Ideal S1x1920 .f32) (x3 : Vec Ideal S1920x5120 .fp8e4m3)
  (x4 : Vec Ideal S1x5120 .f32) (x5 : Vec Ideal S1920x5120 .fp8e4m3) (x6 : Vec Ideal S1x5120 .f32) (x7 : Vec Ideal S5120x1920 .fp8e4m3)
  (x8 : Vec Ideal S1x1920 .f32)

/-- The codes of the block. -/
theorem xc_apply (hs : x0 (ix2 0 0) ≠ 0) (r : Fin 128) (j : Fin 1920) :
    XC x0 x1 x2 (ix2 r j) = codes (fun k => x1 (ix2 r k)) (fun k => x2 (ix2 0 k)) (x0 (ix2 0 0)) j := by
  rw [← codes_eq _ _ hs]
  pointwise [XC, k0_pay4, s0]; rfl

theorem pay19_apply (s : EReal) (X : FVec Ideal S128x1920 .fp8e4m3) (W : Vec Ideal S1920x512 .fp8e4m3) (v : Vec Ideal S1x512 .f32)
    (r : Fin 128) (l : Fin 512) :
    k0_pay19 (F := Ideal) s X W v (ix2 r l) = (∑ k, X (ix2 r k) * W (ix2 k l)) * (v (ix2 0 l) * s) := by
  pointwise [k0_pay19]

/-- 512 columns of a projection. -/
theorem proj_apply (s : EReal) (X : FVec Ideal S128x1920 .fp8e4m3) (W : Vec Ideal S1920x5120 .fp8e4m3) (ws : Vec Ideal S1x5120 .f32)
    (o : ℕ) (h : o + 512 ≤ 5120) (r : Fin 128) (l : Fin 512) :
    proj (F := Ideal) s X W ws o h (ix2 r l)
      = project (fun k => X (ix2 r k)) s (fun k j => W (ix2 k j)) (fun j => ws (ix2 0 j)) ⟨o + l, by omega⟩ := by
  unfold proj; rw [pay19_apply, ← project_eq]
  exact congrArg₂ (· * ·) (Finset.sum_congr rfl fun k _ => congrArg (X (ix2 r k) * ·) (cols_apply W 512 o h k l))
    (congrArg (· * s) (cols_apply ws 512 o h 0 l))

theorem pay64_apply (g u : FVec Ideal S128x512 .f32) (c : EReal) (r : Fin 128) (l : Fin 512) :
    k0_pay64 (F := Ideal) g u c (ix2 r l) = c * g (ix2 r l) * (1 + Ideal.erf (g (ix2 r l) * rootHalf)) * u (ix2 r l) := by
  pointwise [k0_pay64]; rfl

/-- 512 columns of the activation. -/
theorem actC_apply (s : EReal) (X : FVec Ideal S128x1920 .fp8e4m3) (o : ℕ) (h : o + 512 ≤ 5120) (r : Fin 128) (l : Fin 512) :
    actC (F := Ideal) s X x3 x4 x5 x6 o h (ix2 r l)
      = act (project (fun k => X (ix2 r k)) s (fun k j => x3 (ix2 k j)) (fun j => x4 (ix2 0 j)))
          (project (fun k => X (ix2 r k)) s (fun k j => x5 (ix2 k j)) (fun j => x6 (ix2 0 j))) ⟨o + l, by omega⟩ := by
  unfold actC; rw [pay64_apply, proj_apply, proj_apply, ← act_eq]; rfl

/-! ## The row maximum in 128 lanes -/

/-- A bound of the maximum after one more slice: one of the maximum before it and of the slice. -/
theorem pay41_le (m : FVec Ideal S128x128 .f32) (a : FVec Ideal S128x512 .f32) (r : Fin 128) (b : EReal) :
    (∀ l : Fin 128, k0_pay41 m a (ix2 r l) ≤ b)
      ↔ (∀ l : Fin 128, m (ix2 r l) ≤ b) ∧ ∀ j : Fin 512, max (a (ix2 r j)) (-a (ix2 r j)) ≤ b := by
  have e : ∀ l : Fin 128, k0_pay41 m a (ix2 r l)
      = max (max (max (max (m (ix2 r l)) (max (a (ix2 r ⟨0 + l, by omega⟩)) (-a (ix2 r ⟨0 + l, by omega⟩))))
          (max (a (ix2 r ⟨128 + l, by omega⟩)) (-a (ix2 r ⟨128 + l, by omega⟩))))
          (max (a (ix2 r ⟨256 + l, by omega⟩)) (-a (ix2 r ⟨256 + l, by omega⟩))))
          (max (a (ix2 r ⟨384 + l, by omega⟩)) (-a (ix2 r ⟨384 + l, by omega⟩))) := by
    intro l; pointwise [k0_pay41]; rfl
  constructor
  · intro H
    simp only [e, max_le_iff (a := max _ _)] at H
    refine ⟨fun l => (max_le_iff.mp (H l).1.1.1).1, fun j => ?_⟩
    rcases (by omega : (j : ℕ) < 128 ∨ (128 ≤ (j : ℕ) ∧ (j : ℕ) < 256) ∨ (256 ≤ (j : ℕ) ∧ (j : ℕ) < 384) ∨ 384 ≤ (j : ℕ)) with h | h | h | h
    · have ej : (⟨0 + (j : ℕ), by omega⟩ : Fin 512) = j := Fin.ext (Nat.zero_add _)
      have := (max_le_iff.mp (H ⟨j, h⟩).1.1.1).2; rwa [ej] at this
    · have ej : (⟨128 + ((j : ℕ) - 128), by omega⟩ : Fin 512) = j := Fin.ext (by simp; omega)
      have := (H ⟨j - 128, by omega⟩).1.1.2; rwa [ej] at this
    · have ej : (⟨256 + ((j : ℕ) - 256), by omega⟩ : Fin 512) = j := Fin.ext (by simp; omega)
      have := (H ⟨j - 256, by omega⟩).1.2; rwa [ej] at this
    · have ej : (⟨384 + ((j : ℕ) - 384), by omega⟩ : Fin 512) = j := Fin.ext (by simp; omega)
      have := (H ⟨j - 384, by omega⟩).2; rwa [ej] at this
  · rintro ⟨H1, H2⟩ l
    rw [e l]
    exact max_le (max_le (max_le (max_le (H1 l) (H2 _)) (H2 _)) (H2 _)) (H2 _)

theorem pay5_apply (r l : Fin 128) : k0_pay5 (F := Ideal) (ix2 r l) = 0 := by
  pointwise [k0_pay5]

/-- A bound of the maximum after all ten slices: one of every absolute value of the row. -/
theorem lanes_le (f : ∀ o, o + 512 ≤ 5120 → FVec Ideal S128x512 .f32) (A : Fin 128 → Fin 5120 → EReal)
    (H : ∀ o h r l, f o h (ix2 r l) = A r ⟨o + l, by omega⟩) (r : Fin 128) (b : EReal) :
    (∀ l : Fin 128, lanes f (ix2 r l) ≤ b) ↔ ∀ j, max (A r j) (-A r j) ≤ b := by
  unfold lanes lanes9
  simp only [pay41_le, pay5_apply, H]
  constructor
  · rintro ⟨⟨⟨⟨⟨⟨⟨⟨⟨⟨-, h0⟩, h1⟩, h2⟩, h3⟩, h4⟩, h5⟩, h6⟩, h7⟩, h8⟩, h9⟩ j
    have hall : ∀ q : Fin 10, ∀ l : Fin 512, max (A r ⟨512 * q + l, by omega⟩) (-A r ⟨512 * q + l, by omega⟩) ≤ b := by
      intro q; fin_cases q
      exacts [h0, h1, h2, h3, h4, h5, h6, h7, h8, h9]
    have ej : (⟨512 * ((j : ℕ) / 512) + (j : ℕ) % 512, by omega⟩ : Fin 5120) = j := Fin.ext (Nat.div_add_mod _ _)
    have := hall ⟨(j : ℕ) / 512, by omega⟩ ⟨(j : ℕ) % 512, by omega⟩
    rwa [ej] at this
  · intro hj
    have hb : (0 : EReal) ≤ b := le_trans (abs_nonneg' _) (hj 0)
    exact ⟨⟨⟨⟨⟨⟨⟨⟨⟨⟨fun _ => hb, fun _ => hj _⟩, fun _ => hj _⟩, fun _ => hj _⟩, fun _ => hj _⟩, fun _ => hj _⟩, fun _ => hj _⟩,
      fun _ => hj _⟩, fun _ => hj _⟩, fun _ => hj _⟩, fun _ => hj _⟩

/-- The maximum of the lanes is the largest absolute value of the row. -/
theorem lanes_amax (f : ∀ o, o + 512 ≤ 5120 → FVec Ideal S128x512 .f32) (A : Fin 128 → Fin 5120 → EReal)
    (H : ∀ o h r l, f o h (ix2 r l) = A r ⟨o + l, by omega⟩) (r : Fin 128) :
    Finset.fold max lowest (fun l => lanes f (ix2 r l)) Finset.univ = amax (A r) := by
  refine eq_of_forall_ge_iff fun b => ?_
  rw [Finset.fold_max_le, lowest_eq, amax_le_iff, ← lanes_le f A H r b]
  simp

theorem scaleV_apply (m : FVec Ideal S128x128 .f32) (r : Fin 128) (z : Fin 1) :
    scaleV m (ix2 r z) = if Finset.fold max lowest (fun l => m (ix2 r l)) Finset.univ = 0 then 1
      else Finset.fold max lowest (fun l => m (ix2 r l)) Finset.univ * ((448⁻¹ : ℝ) : EReal) := by
  pointwise [scaleV]
  rfl

theorem quantV_apply (s : FVec Ideal S128x1 .f32) (v : Vec Ideal S128x5120 .f32) (r : Fin 128) (j : Fin 5120) :
    quantV s v (ix2 r j) = clip8 (v (ix2 r j) * Ideal.div 1 (s (ix2 r 0))) := by
  pointwise [quantV]; rfl

theorem pay68_apply (s : FVec Ideal S128x1 .f32) (q : FVec Ideal S128x5120 .fp8e4m3) (W : Vec Ideal S5120x256 .fp8e4m3)
    (ws : Vec Ideal S1x256 .f32) (r : Fin 128) (l : Fin 256) :
    k0_pay68 s q W ws (ix2 r l) = (∑ k, q (ix2 r k) * W (ix2 k l)) * s (ix2 r 0) * ws (ix2 0 l) := by
  pointwise [k0_pay68]

theorem pay2_apply (s : FVec Ideal S128x1 .f32) (q : FVec Ideal S128x5120 .fp8e4m3) (W : Vec Ideal S5120x128 .fp8e4m3)
    (ws : Vec Ideal S1x128 .f32) (r : Fin 128) (l : Fin 128) :
    k0_pay2 s q W ws (ix2 r l) = (∑ k, q (ix2 r k) * W (ix2 k l)) * s (ix2 r 0) * ws (ix2 0 l) := by
  pointwise [k0_pay2]

theorem pay1_apply (y h : FVec Ideal S128x256 .f32) (r : Fin 128) (l : Fin 256) : k0_pay1 y h (ix2 r l) = h (ix2 r l) + y (ix2 r l) := by
  pointwise [k0_pay1]

/-! ## The block's results -/

/-- Row `r` of the block's activation. -/
abbrev actB (r : Fin 128) : Fin 5120 → EReal :=
  actRow (fun k => x1 (ix2 r k)) (fun k => x2 (ix2 0 k)) (x0 (ix2 0 0)) (fun k j => x3 (ix2 k j)) (fun j => x4 (ix2 0 j))
    (fun k j => x5 (ix2 k j)) (fun j => x6 (ix2 0 j))

variable (hs : x0 (ix2 0 0) ≠ 0)

include hs in
/-- A projection's slices. -/
theorem projB_apply (W : Vec Ideal S1920x5120 .fp8e4m3) (ws : Vec Ideal S1x5120 .f32) (o : ℕ) (h : o + 512 ≤ 5120) (r : Fin 128) (l : Fin 512) :
    proj (s0 x0) (XC x0 x1 x2) W ws o h (ix2 r l)
      = projRow (fun k => x1 (ix2 r k)) (fun k => x2 (ix2 0 k)) (x0 (ix2 0 0)) (fun k j => W (ix2 k j)) (fun j => ws (ix2 0 j)) ⟨o + l, by omega⟩ := by
  refine (proj_apply _ _ _ _ _ _ _ _).trans ?_
  simp only [xc_apply x0 x1 x2 hs]; rfl

include hs in
/-- The activation's slices. -/
theorem actB_apply (o : ℕ) (h : o + 512 ≤ 5120) (r : Fin 128) (l : Fin 512) :
    AC x0 x1 x2 x3 x4 x5 x6 o h (ix2 r l) = actB x0 x1 x2 x3 x4 x5 x6 r ⟨o + l, by omega⟩ := by
  refine (actC_apply _ _ _ _ _ _ _ _ _ _).trans ?_
  simp only [xc_apply x0 x1 x2 hs]; rfl

include hs in
/-- The row scales. -/
theorem scaleB_apply (r : Fin 128) (z : Fin 1) :
    SC x0 x1 x2 x3 x4 x5 x6 (ix2 r z) = scale (actB x0 x1 x2 x3 x4 x5 x6 r) := by
  refine (scaleV_apply _ r z).trans ?_
  rw [lanes_amax _ (actB x0 x1 x2 x3 x4 x5 x6) (actB_apply x0 x1 x2 x3 x4 x5 x6 hs) r, scale_eq]

theorem shapeCast_self_apply (v : FVec Ideal S128x512 .f32) (r : Fin 128) (l : Fin 512) :
    shapeCast S128x512 v shapeCasts_S128x512_S128x512 (ix2 r l) = v (ix2 r l) := by
  pointwise

include hs in
/-- The activation's codes. -/
theorem quantB_apply (r : Fin 128) (j : Fin 5120) :
    QC x0 x1 x2 x3 x4 x5 x6 (ix2 r j) = quant (actB x0 x1 x2 x3 x4 x5 x6 r) j := by
  refine (quantV_apply _ _ r j).trans ?_
  rw [scaleB_apply x0 x1 x2 x3 x4 x5 x6 hs,
    tens_apply (e := .f32) _ (actB x0 x1 x2 x3 x4 x5 x6) (fun o h r l => (shapeCast_self_apply _ r l).trans (actB_apply x0 x1 x2 x3 x4 x5 x6 hs o h r l)),
    quant_eq]

/-- Row `r` of the block's down projection. -/
abbrev mlpB (r : Fin 128) : Fin 1920 → EReal :=
  mlpRow (actB x0 x1 x2 x3 x4 x5 x6 r) (fun k j => x7 (ix2 k j)) (fun j => x8 (ix2 0 j))

include hs in
/-- The down projection's slices. -/
theorem downB_apply (o : ℕ) (h : o + 256 ≤ 1920) (r : Fin 128) (l : Fin 256) :
    down (SC x0 x1 x2 x3 x4 x5 x6) (QC x0 x1 x2 x3 x4 x5 x6) x7 x8 o h (ix2 r l) = mlpB x0 x1 x2 x3 x4 x5 x6 x7 x8 r ⟨o + l, by omega⟩ := by
  unfold down
  rw [pay68_apply, scaleB_apply x0 x1 x2 x3 x4 x5 x6 hs]
  simp only [quantB_apply x0 x1 x2 x3 x4 x5 x6 hs]
  exact congrArg₂ (· * ·) (congrArg (· * _) (Finset.sum_congr rfl fun k _ => congrArg (_ * ·) (cols_apply x7 256 o h k l)))
    (cols_apply x8 256 o h 0 l)

include hs in
/-- The down projection's last slice. -/
theorem downTailB_apply (r : Fin 128) (l : Fin 128) :
    downTail (SC x0 x1 x2 x3 x4 x5 x6) (QC x0 x1 x2 x3 x4 x5 x6) x7 x8 (ix2 r l) = mlpB x0 x1 x2 x3 x4 x5 x6 x7 x8 r ⟨1792 + l, by omega⟩ := by
  unfold downTail
  rw [pay2_apply, scaleB_apply x0 x1 x2 x3 x4 x5 x6 hs]
  simp only [quantB_apply x0 x1 x2 x3 x4 x5 x6 hs]
  exact congrArg₂ (· * ·) (congrArg (· * _) (Finset.sum_congr rfl fun k _ => congrArg (_ * ·) (cols_apply x7 128 1792 (by decide) k l)))
    (cols_apply x8 128 1792 (by decide) 0 l)

end Cert.KernelIdeal.Block

end
-- ==== Proof.Results.lean ====
/- The results as functions of whole arrays. Each result treats the rows of the residual stream one by one, so each is one
   row function (Rows.lean) applied to every row. The number of rows is left open: the reference applies the row function to
   2048 rows, and one block of the kernel to 128. -/
module

public import proofs.«01_k».proof.Proof.Rows
public import Idealize.ShloMosaic.Lib.Pointwise.Index

@[expose] public section

noncomputable section

namespace Cert.Rows

open Idealize.ShloMosaic

/-- A matrix of `n` rows and `m` columns. -/
abbrev Mat (n m : ℕ) : Type := (⟨2, ![n, m]⟩ : Shape).Idx → EReal

/-- The one row of a matrix of one row. -/
def only {m : ℕ} (A : Mat 1 m) (j : Fin m) : EReal := A (ix2 0 j)

/-- The entries of a matrix. -/
def entries {n m : ℕ} (A : Mat n m) (i : Fin n) (j : Fin m) : EReal := A (ix2 i j)

/-- The row function `f` applied to every row of `h`. -/
def onRows {n k p : ℕ} (f : (Fin k → EReal) → Fin p → EReal) (h : Mat n k) : Mat n p := fun i => f (fun k => h (ix2 (i 0) k)) (i 1)

theorem onRows_apply {n k p : ℕ} (f : (Fin k → EReal) → Fin p → EReal) (h : Mat n k) (r : Fin n) (j : Fin p) :
    onRows f h (ix2 r j) = f (fun k => h (ix2 r k)) j := rfl

/-- Two matrices that agree at every row and column are equal. -/
theorem Mat.ext {n m : ℕ} {A B : Mat n m} (h : ∀ r j, A (ix2 r j) = B (ix2 r j)) : A = B := by
  funext i; rw [eq_ix2 i]; exact h _ _

variable {n p : ℕ} (s : Mat 1 1) (g : Mat 1 n) (wg : Mat n p) (gs : Mat 1 p) (wu : Mat n p) (us : Mat 1 p) (wd : Mat p n) (ds : Mat 1 n)

/-- The codes of a row. -/
def codesF (x : Fin n → EReal) : Fin n → EReal := codes x (only g) (s (ix2 0 0))

/-- A projection of a row's codes. -/
def projF (x : Fin n → EReal) : Fin p → EReal := projRow x (only g) (s (ix2 0 0)) (entries wg) (only gs)

/-- The activation of a row. -/
def actF (x : Fin n → EReal) : Fin p → EReal := actRow x (only g) (s (ix2 0 0)) (entries wg) (only gs) (entries wu) (only us)

/-- The activation's codes. -/
def quantF (x : Fin n → EReal) : Fin p → EReal := quant (actF s g wg gs wu us x)

/-- The activation's scale. -/
def scaleF (x : Fin n → EReal) (_ : Fin 1) : EReal := scale (actF s g wg gs wu us x)

/-- The down projection. -/
def mlpF (x : Fin n → EReal) : Fin n → EReal := mlpRow (actF s g wg gs wu us x) (entries wd) (only ds)

/-- The residual sum. -/
def outF (x : Fin n → EReal) (j : Fin n) : EReal := x j + mlpF s g wg gs wu us wd ds x j

end Cert.Rows

end
-- ==== Proof.KernelBlocks.lean ====
/- What one block of the kernel stores in each result: the result's row function on the block's 128 rows. -/
module

public import proofs.«01_k».proof.Proof.Block
public import proofs.«01_k».proof.Proof.Results

@[expose] public section

set_option maxRecDepth 16384

noncomputable section

namespace Cert.KernelIdeal.Block

open Cert.KernelIdeal Cert.KernelIdeal.Gen Cert.KernelIdeal.Pieces Cert.Rows Idealize.ShloMosaic Idealize.ShloMosaic.TcCoe

variable (c : Dev nD) (i : grid0.Coords)
  (arg1 : Memref sig .tc .smem S1x1 .f32) (harg1 : arg1.IsWhole)
  (arg2 : Memref sig .tc .vmem S128x1920 .f32) (harg2 : arg2.IsWhole)
  (arg3 : Memref sig .tc .vmem S1x1920 .f32) (harg3 : arg3.IsWhole)
  (arg4 : Memref sig .tc .vmem S1920x5120 .fp8e4m3) (harg4 : arg4.IsWhole)
  (arg5 : Memref sig .tc .vmem S1x5120 .f32) (harg5 : arg5.IsWhole)
  (arg6 : Memref sig .tc .vmem S1920x5120 .fp8e4m3) (harg6 : arg6.IsWhole)
  (arg7 : Memref sig .tc .vmem S1x5120 .f32) (harg7 : arg7.IsWhole)
  (arg8 : Memref sig .tc .vmem S5120x1920 .fp8e4m3) (harg8 : arg8.IsWhole)
  (arg9 : Memref sig .tc .vmem S1x1920 .f32) (harg9 : arg9.IsWhole)
  (arg10 : Memref sig .tc .vmem S128x1920 .fp8e4m3) (harg10 : arg10.IsWhole)
  (arg11 : Memref sig .tc .vmem S128x5120 .f32) (harg11 : arg11.IsWhole)
  (arg12 : Memref sig .tc .vmem S128x5120 .f32) (harg12 : arg12.IsWhole)
  (arg13 : Memref sig .tc .vmem S128x5120 .fp8e4m3) (harg13 : arg13.IsWhole)
  (arg14 : Memref sig .tc .vmem S128x1 .f32) (harg14 : arg14.IsWhole)
  (arg15 : Memref sig .tc .vmem S128x1920 .f32) (harg15 : arg15.IsWhole)
  (arg16 : Memref sig .tc .vmem S128x1920 .bf16) (harg16 : arg16.IsWhole)
  (arg17 : Memref sig .tc .vmem S128x5120 .f32) (harg17 : arg17.IsWhole)
  (x0 : Vec Ideal S1x1 .f32)
  (x1 : Vec Ideal S128x1920 .f32)
  (x2 : Vec Ideal S1x1920 .f32)
  (x3 : Vec Ideal S1920x5120 .fp8e4m3)
  (x4 : Vec Ideal S1x5120 .f32)
  (x5 : Vec Ideal S1920x5120 .fp8e4m3)
  (x6 : Vec Ideal S1x5120 .f32)
  (x7 : Vec Ideal S5120x1920 .fp8e4m3)
  (x8 : Vec Ideal S1x1920 .f32)
  (hs : x0 (ix2 0 0) ≠ 0)

include hs

/-- The codes. -/
theorem out9_rows : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (codesF x0 x2) x1 := by
  rw [out9_eq]
  refine Mat.ext fun r j => ?_
  rw [View.canon_unit_zero zero2]
  exact xc_apply x0 x1 x2 hs r j

/-- The gate projection. -/
theorem out10_rows : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (projF x0 x2 x3 x4) x1 := by
  rw [out10_eq]
  refine Mat.ext fun r j => ?_
  exact tens_apply (e := .f32) _ (fun r j => projF x0 x2 x3 x4 (fun k => x1 (ix2 r k)) j) (projB_apply x0 x1 x2 hs x3 x4) r j

/-- The up projection. -/
theorem out11_rows : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (projF x0 x2 x5 x6) x1 := by
  rw [out11_eq]
  refine Mat.ext fun r j => ?_
  exact tens_apply (e := .f32) _ (fun r j => projF x0 x2 x5 x6 (fun k => x1 (ix2 r k)) j) (projB_apply x0 x1 x2 hs x5 x6) r j

/-- The activation's codes. -/
theorem out12_rows : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (quantF x0 x2 x3 x4 x5 x6) x1 := by
  rw [out12_eq]
  refine Mat.ext fun r j => ?_
  rw [View.canon_unit_zero zero2]
  exact quantB_apply x0 x1 x2 x3 x4 x5 x6 hs r j

/-- The activation's scales. -/
theorem out13_rows : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (scaleF x0 x2 x3 x4 x5 x6) x1 := by
  rw [out13_eq]
  refine Mat.ext fun r j => ?_
  rw [View.canon_unit_zero zero2]
  exact scaleB_apply x0 x1 x2 x3 x4 x5 x6 hs r j

/-- The down projection. -/
theorem out14_rows : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (mlpF x0 x2 x3 x4 x5 x6 x7 x8) x1 := by
  rw [out14_eq]
  refine Mat.ext fun r j => ?_
  exact eights_apply (e := .f32) _ _ (mlpB x0 x1 x2 x3 x4 x5 x6 x7 x8) (downB_apply x0 x1 x2 x3 x4 x5 x6 x7 x8 hs) (downTailB_apply x0 x1 x2 x3 x4 x5 x6 x7 x8 hs) r j

/-- The residual sum. -/
theorem out15_rows : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = onRows (outF x0 x2 x3 x4 x5 x6 x7 x8) x1 := by
  rw [out15_eq]
  refine Mat.ext fun r j => ?_
  refine eights_apply (e := .bf16) _ _ (fun r j => x1 (ix2 r j) + mlpB x0 x1 x2 x3 x4 x5 x6 x7 x8 r j) (fun o h r l => ?_) (fun r l => ?_) r j
  · exact (pay1_apply _ _ r l).trans (congrArg₂ (· + ·) (cols_apply x1 256 o h r l) (downB_apply x0 x1 x2 x3 x4 x5 x6 x7 x8 hs o h r l))
  · exact congrArg₂ (· + ·) (cols_apply x1 128 1792 (by decide) r l) (downTailB_apply x0 x1 x2 x3 x4 x5 x6 x7 x8 hs r l)

end Cert.KernelIdeal.Block

end
-- ==== Proof.KernelArrays.lean ====
/- The kernel's results as whole arrays. Point `t` of the grid works on rows `128 t` to `128 t + 127` of the residual stream and of
   every result, and on all of every weight; a result is its row function on each row, so the blocks make up the row function on
   all 2048 rows. -/
module

public import proofs.«01_k».proof.Proof.KernelBlocks
public import Idealize.ShloMosaic.Lib.Pipeline.ValueKit

@[expose] public section

set_option maxRecDepth 16384

noncomputable section

namespace Cert.KernelIdeal.Arrays

open Cert.KernelIdeal Cert.KernelIdeal.Gen Cert.KernelIdeal.Block Cert.Rows Idealize.ShloMosaic Idealize.ShloMosaic.TcCoe
open Idealize.ShloMosaic.Pipeline (Dat)

variable (m : (ℓ : Loc nD τ sig) → Buf (Elt Ideal) ℓ) (c : Dev nD) (t : Fin cfg0.N)

/-! ## The arrays the call reads -/

/-- The scale of the codes. -/
abbrev sA : Mat 1 1 := V m c main_arg0
/-- The residual stream. -/
abbrev hA : Mat 2048 1920 := V m c main_arg1
/-- The weights of the norm. -/
abbrev gA : Mat 1 1920 := V m c main_v0
/-- The gate's codes. -/
abbrev wgA : Mat 1920 5120 := V m c main_arg3
/-- The gate's scales. -/
abbrev gsA : Mat 1 5120 := V m c main_v1
/-- The up projection's codes. -/
abbrev wuA : Mat 1920 5120 := V m c main_arg5
/-- Its scales. -/
abbrev usA : Mat 1 5120 := V m c main_v2
/-- The down projection's codes. -/
abbrev wdA : Mat 5120 1920 := V m c main_arg7
/-- Its scales. -/
abbrev dsA : Mat 1 1920 := V m c main_v3

/-! ## The windows' blocks -/

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)

theorem iblk0 : iblk m c 0 t = sA m c := by
  funext y; blk_ext [iblk, idx0]
theorem iblk2 : iblk m c 2 t = gA m c := by
  funext y; blk_ext [iblk, idx2]
theorem iblk3 : iblk m c 3 t = wgA m c := by
  funext y; blk_ext [iblk, idx3]
theorem iblk4 : iblk m c 4 t = gsA m c := by
  funext y; blk_ext [iblk, idx4]
theorem iblk5 : iblk m c 5 t = wuA m c := by
  funext y; blk_ext [iblk, idx5]
theorem iblk6 : iblk m c 6 t = usA m c := by
  funext y; blk_ext [iblk, idx6]
theorem iblk7 : iblk m c 7 t = wdA m c := by
  funext y; blk_ext [iblk, idx7]
theorem iblk8 : iblk m c 8 t = dsA m c := by
  funext y; blk_ext [iblk, idx8]

theorem row_lt (r : Fin 128) : 128 * t.val + r.val < 2048 := by
  have h : t.val < 16 := t.isLt
  omega

/-- Row `r` of point `t`'s block of the residual stream. -/
theorem iblk1 (r : Fin 128) (k : Fin 1920) : iblk m c 1 t (ix2 r k) = hA m c (ix2 ⟨128 * t.val + r.val, row_lt t r⟩ k) := by
  blk_ext [iblk, idx1]

/-- A row function on point `t`'s rows is the row function on all rows, read at those rows. -/
theorem onRows_block {p : ℕ} (f : (Fin 1920 → EReal) → Fin p → EReal) (y : (⟨2, ![128, p]⟩ : Shape).Idx) (i : (⟨2, ![2048, p]⟩ : Shape).Idx)
    (h0 : (i 0).val = t.val * 128 + (y 0).val) (h1 : (i 1).val = (y 1).val) :
    onRows f (iblk m c 1 t : Mat 128 1920) y = onRows f (hA m c) i := by
  obtain ⟨r, j, rfl⟩ : ∃ r j, y = ix2 r j := ⟨y 0, y 1, eq_ix2 y⟩
  have e : i = ix2 ⟨128 * t.val + r.val, row_lt t r⟩ j := by
    rw [eq_ix2 i]
    refine congrArg₂ ix2 (Fin.ext ?_) (Fin.ext h1)
    rw [h0, Nat.mul_comm]; rfl
  rw [e, onRows_apply, onRows_apply]
  exact congrFun (congrArg f (funext fun k => iblk1 m c t r k)) j

/-! ## The results -/

variable (hs : sA m c (ix2 0 0) ≠ 0)

include hs

theorem hs0 {x : Mat 1 1} (e : x = sA m c) : x (ix2 0 0) ≠ 0 := e ▸ hs

/-- The codes. -/
theorem arr9 : (dats m 0 c).arrAt 9 cfg0.N = onRows (codesF (sA m c) (gA m c)) (hA m c) := by
  refine (dats m 0 c).arrAt_eq_of_covers 9 _ (by decide +kernel) fun t hf y => ?_
  refine (congrFun (Value.flushed9_A m c t) y).trans ?_
  rw [out9_rows (hs := hs0 m c hs (iblk0 m c t)), iblk0, iblk2]
  refine onRows_block m c t _ y _ ?_ ?_ <;> blk_simp [idx9]

/-- The gate projection. -/
theorem arr10 : (dats m 0 c).arrAt 10 cfg0.N = onRows (projF (sA m c) (gA m c) (wgA m c) (gsA m c)) (hA m c) := by
  refine (dats m 0 c).arrAt_eq_of_covers 10 _ (by decide +kernel) fun t hf y => ?_
  refine (congrFun (Value.flushed10_A m c t) y).trans ?_
  rw [out10_rows (hs := hs0 m c hs (iblk0 m c t)), iblk0, iblk2, iblk3, iblk4]
  refine onRows_block m c t _ y _ ?_ ?_ <;> blk_simp [idx10]

/-- The up projection. -/
theorem arr11 : (dats m 0 c).arrAt 11 cfg0.N = onRows (projF (sA m c) (gA m c) (wuA m c) (usA m c)) (hA m c) := by
  refine (dats m 0 c).arrAt_eq_of_covers 11 _ (by decide +kernel) fun t hf y => ?_
  refine (congrFun (Value.flushed11_A m c t) y).trans ?_
  rw [out11_rows (hs := hs0 m c hs (iblk0 m c t)), iblk0, iblk2, iblk5, iblk6]
  refine onRows_block m c t _ y _ ?_ ?_ <;> blk_simp [idx11]

/-- The activation's codes. -/
theorem arr12 : (dats m 0 c).arrAt 12 cfg0.N = onRows (quantF (sA m c) (gA m c) (wgA m c) (gsA m c) (wuA m c) (usA m c)) (hA m c) := by
  refine (dats m 0 c).arrAt_eq_of_covers 12 _ (by decide +kernel) fun t hf y => ?_
  refine (congrFun (Value.flushed12_A m c t) y).trans ?_
  rw [out12_rows (hs := hs0 m c hs (iblk0 m c t)), iblk0, iblk2, iblk3, iblk4, iblk5, iblk6]
  refine onRows_block m c t _ y _ ?_ ?_ <;> blk_simp [idx12]

/-- The activation's scales. -/
theorem arr13 : (dats m 0 c).arrAt 13 cfg0.N = onRows (scaleF (sA m c) (gA m c) (wgA m c) (gsA m c) (wuA m c) (usA m c)) (hA m c) := by
  refine (dats m 0 c).arrAt_eq_of_covers 13 _ (by decide +kernel) fun t hf y => ?_
  refine (congrFun (Value.flushed13_A m c t) y).trans ?_
  rw [out13_rows (hs := hs0 m c hs (iblk0 m c t)), iblk0, iblk2, iblk3, iblk4, iblk5, iblk6]
  refine onRows_block m c t _ y _ ?_ ?_ <;> blk_simp [idx13]

/-- The down projection. -/
theorem arr14 : (dats m 0 c).arrAt 14 cfg0.N = onRows (mlpF (sA m c) (gA m c) (wgA m c) (gsA m c) (wuA m c) (usA m c) (wdA m c) (dsA m c)) (hA m c) := by
  refine (dats m 0 c).arrAt_eq_of_covers 14 _ (by decide +kernel) fun t hf y => ?_
  refine (congrFun (Value.flushed14_A m c t) y).trans ?_
  rw [out14_rows (hs := hs0 m c hs (iblk0 m c t)), iblk0, iblk2, iblk3, iblk4, iblk5, iblk6, iblk7, iblk8]
  refine onRows_block m c t _ y _ ?_ ?_ <;> blk_simp [idx14]

/-- The residual sum. -/
theorem arr15 : (dats m 0 c).arrAt 15 cfg0.N = onRows (outF (sA m c) (gA m c) (wgA m c) (gsA m c) (wuA m c) (usA m c) (wdA m c) (dsA m c)) (hA m c) := by
  refine (dats m 0 c).arrAt_eq_of_covers 15 _ (by decide +kernel) fun t hf y => ?_
  refine (congrFun (Value.flushed15_A m c t) y).trans ?_
  rw [out15_rows (hs := hs0 m c hs (iblk0 m c t)), iblk0, iblk2, iblk3, iblk4, iblk5, iblk6, iblk7, iblk8]
  refine onRows_block m c t _ y _ ?_ ?_ <;> blk_simp [idx15]

end Cert.KernelIdeal.Arrays

end
-- ==== Proof.RefValue.lean ====
/- The reference's values at an index: each result, read at row `r`, is a row function (Rows.lean) of row `r` of the
   residual stream and of the weights. -/
module

public import proofs.«01_k».proof.Proof.Gen.ReferenceIdeal.Value
public import proofs.«01_k».proof.Proof.Rows
public import Idealize.ShloMosaic.Lib.Pointwise

@[expose] public section

set_option maxRecDepth 16384

noncomputable section

namespace Cert.ReferenceIdeal.RefValue

open Cert.ReferenceIdeal Cert.ReferenceIdeal.Gen Cert.Rows Idealize.ShloMosaic

variable (h1 : Vec Ideal S2048x1920 .f32) (s2 : Vec Ideal S1x1 .f32) (g2 : Vec Ideal S1x1920 .f32)
  (wg : Vec Ideal S1920x5120 .fp8e4m3) (wgs : Vec Ideal S1x5120 .f32) (wu : Vec Ideal S1920x5120 .fp8e4m3) (wus : Vec Ideal S1x5120 .f32)
  (wd : Vec Ideal S5120x1920 .fp8e4m3) (wds : Vec Ideal S1x1920 .f32)

/-- The codes of the normalised residual stream. -/
theorem codes_apply (r : Fin 2048) (j : Fin 1920) :
    k0_pay3 h1 s2 g2 (ix2 r j) = codes (fun k => h1 (ix2 r k)) (fun k => g2 (ix2 0 k)) (s2 (ix2 0 0)) j := by
  pointwise [k0_pay3, k0_pay2]; rfl

/-- The gate projection, for any codes. -/
theorem gate_apply (r : Fin 2048) (j : Fin 5120) :
    k0_pay4 h1 s2 g2 wg wgs (ix2 r j)
      = project (fun k => k0_pay3 h1 s2 g2 (ix2 r k)) (s2 (ix2 0 0)) (fun k j => wg (ix2 k j)) (fun j => wgs (ix2 0 j)) j := by
  pointwise [k0_pay4, k0_pay2]; rfl

/-- The up projection. -/
theorem up_apply (r : Fin 2048) (j : Fin 5120) :
    k0_pay7 (k0_pay5 h1 s2 g2 wu) (k0_pay6 wus) (ix2 r j)
      = project (fun k => k0_pay3 h1 s2 g2 (ix2 r k)) (s2 (ix2 0 0)) (fun k j => wu (ix2 k j)) (fun j => wus (ix2 0 j)) j := by
  pointwise [k0_pay7, k0_pay5, k0_pay6, k0_pay2]; rfl

/-- The gated activation. -/
theorem act_apply (g d e : FVec Ideal S2048x5120 .f32) (r : Fin 2048) (j : Fin 5120) :
    k0_pay8 g d e (ix2 r j) = act (fun j => g (ix2 r j)) (fun j => k0_pay7 d e (ix2 r j)) j := by
  unfold k0_pay8; generalize k0_pay7 d e = u
  pointwise; rfl

/-- The scales of rows with the largest absolute values `m`. -/
def scaleVec (m : FVec Ideal S2048 .f32) : FVec Ideal S2048x1 .f32 :=
  select (cmpf .oeq (shapeCast S2048x1 m shapeCasts_S2048_S2048x1) (broadcast S2048x1 (Scalar.ofBits .f32 0x00000000#32)))
    (broadcast S2048x1 (Scalar.ofBits .f32 0x3F800000#32))
    (divf (shapeCast S2048x1 m shapeCasts_S2048_S2048x1) (broadcast S2048x1 (Scalar.ofBits .f32 0x43E00000#32)))

/-- The largest absolute values of the rows of `a`. -/
def amaxVec (a : FVec Ideal S2048x5120 .f32) : FVec Ideal S2048 .f32 :=
  multiReduction .maximumf [1] S2048 (absf a) 0xFF800000#32 reduces_S2048x5120_S2048 (.inl rfl) rfl

/-- `a` quantised by the column `s`. -/
def quantVec (a : FVec Ideal S2048x5120 .f32) (s : FVec Ideal S2048x1 .f32) : FVec Ideal S2048x5120 .fp8e4m3 :=
  truncf .fp8e4m3 (minimumf (broadcast S2048x5120 (Scalar.ofBits .f32 0x43E00000#32))
    (maximumf (broadcast S2048x5120 (Scalar.ofBits .f32 0xC3E00000#32)) (divf a (broadcastTo S2048x5120 s broadcasts_S2048x1_S2048x5120)))) bitsLt_fp8e4m3_f32

/-- The down projection of the codes `q` with the scales `s`. -/
def downVec (q : FVec Ideal S2048x5120 .fp8e4m3) (s : FVec Ideal S2048x1 .f32) : FVec Ideal S2048x1920 .f32 :=
  mulf (mulf (matmul (φ₂ := .fp8e4m3) dot_S2048x5120_S5120x1920_S2048x1920_1_0_0_1_n_n none q wd (constant S2048x1920 .f32 0x00000000#32))
    (broadcastTo S2048x1920 s broadcasts_S2048x1_S2048x1920)) (broadcastTo S2048x1920 (shapeCast S1x1920 wds shapeCasts_S1x1920_S1x1920) broadcasts_S1x1920_S2048x1920)

theorem scaleVec_apply (m : FVec Ideal S2048 .f32) (r : Fin 2048) (z : Fin 1) :
    scaleVec m (ix2 r z) = if m (ix1 r) = 0 then 1 else Ideal.div (m (ix1 r)) top8 := by
  pointwise [scaleVec]

/-- A row maximum of absolute values, for any number of rows and columns. -/
theorem rowMax_apply {n m : ℕ} (a : FVec Ideal ⟨2, ![n, m]⟩ .f32) (h : Shape.Reduces ⟨2, ![n, m]⟩ [1] ⟨1, ![n]⟩)
    (hφ : FKind.Formats .f32) (hacc : (0xFF800000#32 : BitVec 32) = FKind.maximumf.neutral .f32 hφ) (r : Fin n) :
    multiReduction .maximumf [1] ⟨1, ![n]⟩ (absf a) 0xFF800000#32 h hφ hacc (ix1 r) = amax (fun j => a (ix2 r j)) := by
  pointwise; rfl

theorem amaxVec_apply (a : FVec Ideal S2048x5120 .f32) (r : Fin 2048) : amaxVec a (ix1 r) = amax (fun j => a (ix2 r j)) := by
  unfold amaxVec; exact rowMax_apply a _ _ _ r

theorem quantVec_apply (a : FVec Ideal S2048x5120 .f32) (s : FVec Ideal S2048x1 .f32) (r : Fin 2048) (j : Fin 5120) :
    quantVec a s (ix2 r j) = clip8 (Ideal.div (a (ix2 r j)) (s (ix2 r 0))) := by
  pointwise [quantVec]; rfl

theorem downVec_apply (q : FVec Ideal S2048x5120 .fp8e4m3) (s : FVec Ideal S2048x1 .f32) (r : Fin 2048) (j : Fin 1920) :
    downVec wd wds q s (ix2 r j) = project (fun k => q (ix2 r k)) (s (ix2 r 0)) (fun k j => wd (ix2 k j)) (fun j => wds (ix2 0 j)) j := by
  pointwise [downVec]; rfl

theorem scaleVec_eq (g d e : FVec Ideal S2048x5120 .f32) : k0_pay9 g d e = scaleVec (amaxVec (k0_pay8 g d e)) := rfl

theorem quantVec_eq (g d e : FVec Ideal S2048x5120 .f32) : k0_pay10 g d e = quantVec (k0_pay8 g d e) (k0_pay9 g d e) := rfl

theorem downVec_eq (g d e : FVec Ideal S2048x5120 .f32) :
    k0_pay11 g d e wd wds = downVec wd wds (k0_pay10 g d e) (k0_pay9 g d e) := rfl

/-- The activation's row scales. -/
theorem scale_apply (g d e : FVec Ideal S2048x5120 .f32) (r : Fin 2048) (z : Fin 1) :
    k0_pay9 g d e (ix2 r z) = scale (fun j => k0_pay8 g d e (ix2 r j)) := by
  rw [scaleVec_eq, scaleVec_apply, amaxVec_apply]; rfl

/-- The activation's codes. -/
theorem quant_apply (g d e : FVec Ideal S2048x5120 .f32) (r : Fin 2048) (j : Fin 5120) :
    k0_pay10 g d e (ix2 r j) = quant (fun j => k0_pay8 g d e (ix2 r j)) j := by
  rw [quantVec_eq, quantVec_apply, scale_apply]; rfl

/-- The down projection. -/
theorem mlp_apply (g d e : FVec Ideal S2048x5120 .f32) (r : Fin 2048) (j : Fin 1920) :
    k0_pay11 g d e wd wds (ix2 r j)
      = project (fun k => k0_pay10 g d e (ix2 r k)) (k0_pay9 g d e (ix2 r 0)) (fun k j => wd (ix2 k j)) (fun j => wds (ix2 0 j)) j := by
  rw [downVec_eq, downVec_apply]

/-- The residual sum. -/
theorem out_apply (y : FVec Ideal S2048x1920 .f32) (r : Fin 2048) (j : Fin 1920) :
    k0_pay1 h1 y (ix2 r j) = h1 (ix2 r j) + y (ix2 r j) := by
  pointwise [k0_pay1]

end Cert.ReferenceIdeal.RefValue

end
-- ==== Proof.RefArrays.lean ====
/- What the reference stores in each result: the result's row function on all 2048 rows. -/
module

public import proofs.«01_k».proof.Proof.RefValue
public import proofs.«01_k».proof.Proof.Results

@[expose] public section

set_option maxRecDepth 16384

noncomputable section

namespace Cert.ReferenceIdeal.RefValue

open Cert.ReferenceIdeal Cert.ReferenceIdeal.Gen Cert.Rows Idealize.ShloMosaic

variable (x0 : Vec Ideal S1x1 .f32) (x1 : Vec Ideal S2048x1920 .f32) (x2 : Vec Ideal S1x1920 .f32) (x3 : Vec Ideal S1920x5120 .fp8e4m3)
  (x4 : Vec Ideal S1x5120 .f32) (x5 : Vec Ideal S1920x5120 .fp8e4m3) (x6 : Vec Ideal S1x5120 .f32) (x7 : Vec Ideal S5120x1920 .fp8e4m3)
  (x8 : Vec Ideal S1x1920 .f32)

theorem zero2 : (![0, 0] : Fin 2 → ℕ) = fun _ => 0 := by funext a; fin_cases a <;> rfl

/-- Loading a whole matrix. -/
theorem ld_all {n m : ℕ} {e : EltTy} (x : Vec Ideal ⟨2, ![n, m]⟩ e)
    (h : ∀ a, (![0, 0] : Fin 2 → ℕ) a + (⟨2, ![n, m]⟩ : Shape).size a ≤ (⟨2, ![n, m]⟩ : Shape).size a) :
    View.ld x (Rect.unit (s := ⟨2, ![n, m]⟩) ![0, 0] (⟨2, ![n, m]⟩ : Shape).size h) = x := by
  rw [View.ld_unit_zero zero2]

theorem gateR (r : Fin 2048) (j : Fin 5120) :
    k0_pay12 x0 x1 x2 x3 x4 x5 x6 x7 x8 (ix2 r j) = projF x0 x2 x3 x4 (fun k => x1 (ix2 r k)) j := by
  unfold k0_pay12
  simp only [ld_all]
  refine (gate_apply _ _ _ _ _ r j).trans ?_
  simp only [codes_apply]; rfl

theorem upR (r : Fin 2048) (j : Fin 5120) :
    k0_pay7 (k0_pay13 x0 x1 x2 x3 x4 x5 x6 x7 x8) (k0_pay14 x0 x1 x2 x3 x4 x5 x6 x7 x8) (ix2 r j)
      = projF x0 x2 x5 x6 (fun k => x1 (ix2 r k)) j := by
  unfold k0_pay13 k0_pay14
  simp only [ld_all]
  refine (up_apply _ _ _ _ _ r j).trans ?_
  simp only [codes_apply]; rfl

theorem actR (r : Fin 2048) (j : Fin 5120) :
    k0_pay8 (k0_pay12 x0 x1 x2 x3 x4 x5 x6 x7 x8) (k0_pay13 x0 x1 x2 x3 x4 x5 x6 x7 x8) (k0_pay14 x0 x1 x2 x3 x4 x5 x6 x7 x8) (ix2 r j)
      = actF x0 x2 x3 x4 x5 x6 (fun k => x1 (ix2 r k)) j := by
  rw [act_apply]; simp only [gateR, upR]; rfl

theorem scaleR (r : Fin 2048) (z : Fin 1) :
    k0_pay9 (k0_pay12 x0 x1 x2 x3 x4 x5 x6 x7 x8) (k0_pay13 x0 x1 x2 x3 x4 x5 x6 x7 x8) (k0_pay14 x0 x1 x2 x3 x4 x5 x6 x7 x8) (ix2 r z)
      = scaleF x0 x2 x3 x4 x5 x6 (fun k => x1 (ix2 r k)) z := by
  rw [scale_apply]; simp only [actR]; rfl

theorem quantR (r : Fin 2048) (j : Fin 5120) :
    k0_pay10 (k0_pay12 x0 x1 x2 x3 x4 x5 x6 x7 x8) (k0_pay13 x0 x1 x2 x3 x4 x5 x6 x7 x8) (k0_pay14 x0 x1 x2 x3 x4 x5 x6 x7 x8) (ix2 r j)
      = quantF x0 x2 x3 x4 x5 x6 (fun k => x1 (ix2 r k)) j := by
  rw [quant_apply]; simp only [actR]; rfl

theorem mlpR (r : Fin 2048) (j : Fin 1920) :
    k0_pay15 x0 x1 x2 x3 x4 x5 x6 x7 x8 (ix2 r j) = mlpF x0 x2 x3 x4 x5 x6 x7 x8 (fun k => x1 (ix2 r k)) j := by
  unfold k0_pay15
  rw [View.ld_unit_zero zero2, View.ld_unit_zero zero2, mlp_apply, scaleR]
  simp only [quantR]; rfl

/-- The codes. -/
theorem out9_rows : out0_9 (F := Ideal) x0 x1 x2 x3 x4 x5 x6 x7 x8 = onRows (codesF x0 x2) x1 := by
  unfold out0_9; rw [View.canon_unit_zero zero2]
  refine Mat.ext fun r j => ?_
  simp only [ld_all]
  exact codes_apply _ _ _ r j

/-- The gate projection. -/
theorem out10_rows : out0_10 (F := Ideal) x0 x1 x2 x3 x4 x5 x6 x7 x8 = onRows (projF x0 x2 x3 x4) x1 := by
  unfold out0_10; rw [View.canon_unit_zero zero2]
  exact Mat.ext fun r j => gateR x0 x1 x2 x3 x4 x5 x6 x7 x8 r j

/-- The up projection. -/
theorem out11_rows : out0_11 (F := Ideal) x0 x1 x2 x3 x4 x5 x6 x7 x8 = onRows (projF x0 x2 x5 x6) x1 := by
  unfold out0_11; rw [View.canon_unit_zero zero2]
  exact Mat.ext fun r j => upR x0 x1 x2 x3 x4 x5 x6 x7 x8 r j

/-- The activation's codes. -/
theorem out12_rows : out0_12 (F := Ideal) x0 x1 x2 x3 x4 x5 x6 x7 x8 = onRows (quantF x0 x2 x3 x4 x5 x6) x1 := by
  unfold out0_12; rw [View.canon_unit_zero zero2]
  exact Mat.ext fun r j => quantR x0 x1 x2 x3 x4 x5 x6 x7 x8 r j

/-- The activation's scales. -/
theorem out13_rows : out0_13 (F := Ideal) x0 x1 x2 x3 x4 x5 x6 x7 x8 = onRows (scaleF x0 x2 x3 x4 x5 x6) x1 := by
  unfold out0_13; rw [View.canon_unit_zero zero2]
  exact Mat.ext fun r j => scaleR x0 x1 x2 x3 x4 x5 x6 x7 x8 r j

/-- The down projection. -/
theorem out14_rows : out0_14 (F := Ideal) x0 x1 x2 x3 x4 x5 x6 x7 x8 = onRows (mlpF x0 x2 x3 x4 x5 x6 x7 x8) x1 := by
  unfold out0_14; rw [View.canon_unit_zero zero2]
  exact Mat.ext fun r j => mlpR x0 x1 x2 x3 x4 x5 x6 x7 x8 r j

/-- The residual sum. -/
theorem out15_rows : out0_15 (F := Ideal) x0 x1 x2 x3 x4 x5 x6 x7 x8 = onRows (outF x0 x2 x3 x4 x5 x6 x7 x8) x1 := by
  unfold out0_15; rw [View.canon_unit_zero zero2, View.ld_unit_zero zero2]
  refine Mat.ext fun r j => (out_apply _ _ r j).trans ?_
  rw [mlpR]; rfl

end Cert.ReferenceIdeal.RefValue

end
-- ==== Proof.RefResults.lean ====
/- The reference's results as whole arrays: its one point works on whole arrays. -/
module

public import proofs.«01_k».proof.Proof.RefArrays
public import Idealize.ShloMosaic.Lib.Pipeline.ValueKit

@[expose] public section

set_option maxRecDepth 16384

noncomputable section

namespace Cert.ReferenceIdeal.Arrays

open Cert.ReferenceIdeal Cert.ReferenceIdeal.Gen Cert.ReferenceIdeal.RefValue Cert.Rows Idealize.ShloMosaic Idealize.ShloMosaic.TcCoe
open Idealize.ShloMosaic.Pipeline (Dat)

variable (m : (ℓ : Loc nD τ sig) → Buf (Elt Ideal) ℓ) (c : Dev nD) (t : Fin cfg0.N)

/-! ## The arrays the call reads -/

/-- The scale of the codes. -/
abbrev sA : Mat 1 1 := V m c main_arg0
/-- The residual stream. -/
abbrev hA : Mat 2048 1920 := V m c main_arg1
/-- The weights of the norm. -/
abbrev gA : Mat 1 1920 := V m c main_v0
/-- The gate's codes. -/
abbrev wgA : Mat 1920 5120 := V m c main_arg3
/-- The gate's scales. -/
abbrev gsA : Mat 1 5120 := V m c main_v1
/-- The up projection's codes. -/
abbrev wuA : Mat 1920 5120 := V m c main_arg5
/-- Its scales. -/
abbrev usA : Mat 1 5120 := V m c main_v2
/-- The down projection's codes. -/
abbrev wdA : Mat 5120 1920 := V m c main_arg7
/-- Its scales. -/
abbrev dsA : Mat 1 1920 := V m c main_v3

/-! ## The windows' blocks -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)

theorem iblk0 : iblk m c 0 t = sA m c := by
  funext y; blk_ext [iblk, idx0]
theorem iblk1 : iblk m c 1 t = hA m c := by
  funext y; blk_ext [iblk, idx1]
theorem iblk2 : iblk m c 2 t = gA m c := by
  funext y; blk_ext [iblk, idx2]
theorem iblk3 : iblk m c 3 t = wgA m c := by
  funext y; blk_ext [iblk, idx3]
theorem iblk4 : iblk m c 4 t = gsA m c := by
  funext y; blk_ext [iblk, idx4]
theorem iblk5 : iblk m c 5 t = wuA m c := by
  funext y; blk_ext [iblk, idx5]
theorem iblk6 : iblk m c 6 t = usA m c := by
  funext y; blk_ext [iblk, idx6]
theorem iblk7 : iblk m c 7 t = wdA m c := by
  funext y; blk_ext [iblk, idx7]
theorem iblk8 : iblk m c 8 t = dsA m c := by
  funext y; blk_ext [iblk, idx8]

/-! ## The results -/

/-- The codes. -/
theorem arr9 : (dats m 0 c).arrAt 9 cfg0.N = onRows (codesF (sA m c) (gA m c)) (hA m c) := by
  refine (dats m 0 c).arrAt_eq_of_covers 9 _ (by decide +kernel) fun t hf y => ?_
  refine (congrFun (Value.flushed9 m c t) y).trans ?_
  rw [out9_rows, iblk0, iblk1, iblk2]
  refine congrArg (onRows (codesF (sA m c) (gA m c)) (hA m c)) ?_
  blk_ext [idx9]

/-- The gate projection. -/
theorem arr10 : (dats m 0 c).arrAt 10 cfg0.N = onRows (projF (sA m c) (gA m c) (wgA m c) (gsA m c)) (hA m c) := by
  refine (dats m 0 c).arrAt_eq_of_covers 10 _ (by decide +kernel) fun t hf y => ?_
  refine (congrFun (Value.flushed10 m c t) y).trans ?_
  rw [out10_rows, iblk0, iblk1, iblk2, iblk3, iblk4]
  refine congrArg (onRows (projF (sA m c) (gA m c) (wgA m c) (gsA m c)) (hA m c)) ?_
  blk_ext [idx10]

/-- The up projection. -/
theorem arr11 : (dats m 0 c).arrAt 11 cfg0.N = onRows (projF (sA m c) (gA m c) (wuA m c) (usA m c)) (hA m c) := by
  refine (dats m 0 c).arrAt_eq_of_covers 11 _ (by decide +kernel) fun t hf y => ?_
  refine (congrFun (Value.flushed11 m c t) y).trans ?_
  rw [out11_rows, iblk0, iblk1, iblk2, iblk5, iblk6]
  refine congrArg (onRows (projF (sA m c) (gA m c) (wuA m c) (usA m c)) (hA m c)) ?_
  blk_ext [idx11]

/-- The activation's codes. -/
theorem arr12 : (dats m 0 c).arrAt 12 cfg0.N = onRows (quantF (sA m c) (gA m c) (wgA m c) (gsA m c) (wuA m c) (usA m c)) (hA m c) := by
  refine (dats m 0 c).arrAt_eq_of_covers 12 _ (by decide +kernel) fun t hf y => ?_
  refine (congrFun (Value.flushed12 m c t) y).trans ?_
  rw [out12_rows, iblk0, iblk1, iblk2, iblk3, iblk4, iblk5, iblk6]
  refine congrArg (onRows (quantF (sA m c) (gA m c) (wgA m c) (gsA m c) (wuA m c) (usA m c)) (hA m c)) ?_
  blk_ext [idx12]

/-- The activation's scales. -/
theorem arr13 : (dats m 0 c).arrAt 13 cfg0.N = onRows (scaleF (sA m c) (gA m c) (wgA m c) (gsA m c) (wuA m c) (usA m c)) (hA m c) := by
  refine (dats m 0 c).arrAt_eq_of_covers 13 _ (by decide +kernel) fun t hf y => ?_
  refine (congrFun (Value.flushed13 m c t) y).trans ?_
  rw [out13_rows, iblk0, iblk1, iblk2, iblk3, iblk4, iblk5, iblk6]
  refine congrArg (onRows (scaleF (sA m c) (gA m c) (wgA m c) (gsA m c) (wuA m c) (usA m c)) (hA m c)) ?_
  blk_ext [idx13]

/-- The down projection. -/
theorem arr14 : (dats m 0 c).arrAt 14 cfg0.N = onRows (mlpF (sA m c) (gA m c) (wgA m c) (gsA m c) (wuA m c) (usA m c) (wdA m c) (dsA m c)) (hA m c) := by
  refine (dats m 0 c).arrAt_eq_of_covers 14 _ (by decide +kernel) fun t hf y => ?_
  refine (congrFun (Value.flushed14 m c t) y).trans ?_
  rw [out14_rows, iblk0, iblk1, iblk2, iblk3, iblk4, iblk5, iblk6, iblk7, iblk8]
  refine congrArg (onRows (mlpF (sA m c) (gA m c) (wgA m c) (gsA m c) (wuA m c) (usA m c) (wdA m c) (dsA m c)) (hA m c)) ?_
  blk_ext [idx14]

/-- The residual sum. -/
theorem arr15 : (dats m 0 c).arrAt 15 cfg0.N = onRows (outF (sA m c) (gA m c) (wgA m c) (gsA m c) (wuA m c) (usA m c) (wdA m c) (dsA m c)) (hA m c) := by
  refine (dats m 0 c).arrAt_eq_of_covers 15 _ (by decide +kernel) fun t hf y => ?_
  refine (congrFun (Value.flushed15 m c t) y).trans ?_
  rw [out15_rows, iblk0, iblk1, iblk2, iblk3, iblk4, iblk5, iblk6, iblk7, iblk8]
  refine congrArg (onRows (outF (sA m c) (gA m c) (wgA m c) (gsA m c) (wuA m c) (usA m c) (wdA m c) (dsA m c)) (hA m c)) ?_
  blk_ext [idx15]

end Cert.ReferenceIdeal.Arrays

end
-- ==== Proof.Agree.lean ====
/- Both programs read the same arrays: from equal arguments, every array the one reads is the one the other reads. Four of
   the arguments are vectors, which both programs first turn into matrices of one row. So the results agree,
   where the scale of the codes is not zero. -/
module

public import proofs.«01_k».proof.Proof.KernelArrays
public import proofs.«01_k».proof.Proof.RefResults
public import proofs.«01_k».proof.Pre_scale_is_not_zero
public import Idealize.ShloMosaic.Lib.Pointwise

@[expose] public section

noncomputable section

namespace Cert.Agree

open Idealize.ShloMosaic Idealize.ShloMosaic.TcCoe Cert.Rows

/-- A vector as a matrix of one row. -/
def asRow {k : ℕ} (h : (⟨1, ![k]⟩ : Shape).ShapeCasts ⟨2, ![1, k]⟩) (v : (⟨1, ![k]⟩ : Shape).Idx → EReal) : Mat 1 k :=
  shapeCast (⟨2, ![1, k]⟩ : Shape) v h

theorem casts1920 : (⟨1, ![1920]⟩ : Shape).ShapeCasts ⟨2, ![1, 1920]⟩ := by decide

theorem casts5120 : (⟨1, ![5120]⟩ : Shape).ShapeCasts ⟨2, ![1, 5120]⟩ := by decide

section KernelIdeal

open Cert.KernelIdeal Cert.KernelIdeal.Gen Cert.KernelIdeal.Arrays

variable (m : (ℓ : Loc nD τ sig) → Buf (Elt Ideal) ℓ) (c : Dev nD)

theorem k_g : gA m c = asRow casts1920 (m ((c : Thread nD τ).loc main_arg2)) := by
  unfold gA V hostOps0
  after_region_results
  rfl

theorem k_gs : gsA m c = asRow casts5120 (m ((c : Thread nD τ).loc main_arg4)) := by
  unfold gsA V hostOps0
  after_region_results
  rfl

theorem k_us : usA m c = asRow casts5120 (m ((c : Thread nD τ).loc main_arg6)) := by
  unfold usA V hostOps0
  after_region_results
  rfl

theorem k_ds : dsA m c = asRow casts1920 (m ((c : Thread nD τ).loc main_arg8)) := by
  unfold dsA V hostOps0
  after_region_results
  rfl

theorem k_s : sA m c = m ((c : Thread nD τ).loc main_arg0) := V_main_arg0 m c

theorem k_h : hA m c = m ((c : Thread nD τ).loc main_arg1) := V_main_arg1 m c

theorem k_wg : wgA m c = m ((c : Thread nD τ).loc main_arg3) := V_main_arg3 m c

theorem k_wu : wuA m c = m ((c : Thread nD τ).loc main_arg5) := V_main_arg5 m c

theorem k_wd : wdA m c = m ((c : Thread nD τ).loc main_arg7) := V_main_arg7 m c

end KernelIdeal

section ReferenceIdeal

open Cert.ReferenceIdeal Cert.ReferenceIdeal.Gen Cert.ReferenceIdeal.Arrays

variable (m' : (ℓ : Loc nD τ sig) → Buf (Elt Ideal) ℓ) (c : Dev nD)

theorem r_g : gA m' c = asRow casts1920 (m' ((c : Thread nD τ).loc main_arg2)) := by
  unfold gA V hostOps0
  after_region_results
  rfl

theorem r_gs : gsA m' c = asRow casts5120 (m' ((c : Thread nD τ).loc main_arg4)) := by
  unfold gsA V hostOps0
  after_region_results
  rfl

theorem r_us : usA m' c = asRow casts5120 (m' ((c : Thread nD τ).loc main_arg6)) := by
  unfold usA V hostOps0
  after_region_results
  rfl

theorem r_ds : dsA m' c = asRow casts1920 (m' ((c : Thread nD τ).loc main_arg8)) := by
  unfold dsA V hostOps0
  after_region_results
  rfl

theorem r_s : sA m' c = m' ((c : Thread nD τ).loc main_arg0) := V_main_arg0 m' c

theorem r_h : hA m' c = m' ((c : Thread nD τ).loc main_arg1) := V_main_arg1 m' c

theorem r_wg : wgA m' c = m' ((c : Thread nD τ).loc main_arg3) := V_main_arg3 m' c

theorem r_wu : wuA m' c = m' ((c : Thread nD τ).loc main_arg5) := V_main_arg5 m' c

theorem r_wd : wdA m' c = m' ((c : Thread nD τ).loc main_arg7) := V_main_arg7 m' c

end ReferenceIdeal

/-! ## The precondition -/

theorem pre_facts : Cert.Pre_scale_is_not_zero.Facts := ⟨by decide⟩

/-- The precondition, read: the scale of the codes is not zero. -/
theorem ne_zero_of_pre [Cert.Pre_scale_is_not_zero.Facts] {x0 : FVec Ideal ⟨2, ![1, 1]⟩ .f32} {x1 x2 x3 x4 x5 x6 x7 x8}
    (h : Cert.Pre_scale_is_not_zero.fn (F := Ideal) x0 x1 x2 x3 x4 x5 x6 x7 x8 = fun _ => 1#1) : x0 (ix2 0 0) ≠ (0 : EReal) := by
  intro h0
  have h1 := congrFun h (ix2 0 0)
  have e : Cert.Pre_scale_is_not_zero.fn (F := Ideal) x0 x1 x2 x3 x4 x5 x6 x7 x8 (ix2 0 0) = BitVec.ofBool (decide (x0 (ix2 0 0) ≠ (0 : EReal))) := by
    pointwise [Cert.Pre_scale_is_not_zero.fn]
  rw [e, h0] at h1
  exact absurd h1 (by simp)

/-! ## The results agree -/

section Results

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include e2 in
theorem same_g : Cert.ReferenceIdeal.Arrays.gA m' c = Cert.KernelIdeal.Arrays.gA m c := (r_g m' c).trans ((congrArg (asRow _) e2).trans (k_g m c).symm)

include e4 in
theorem same_gs : Cert.ReferenceIdeal.Arrays.gsA m' c = Cert.KernelIdeal.Arrays.gsA m c := (r_gs m' c).trans ((congrArg (asRow _) e4).trans (k_gs m c).symm)

include e6 in
theorem same_us : Cert.ReferenceIdeal.Arrays.usA m' c = Cert.KernelIdeal.Arrays.usA m c := (r_us m' c).trans ((congrArg (asRow _) e6).trans (k_us m c).symm)

include e8 in
theorem same_ds : Cert.ReferenceIdeal.Arrays.dsA m' c = Cert.KernelIdeal.Arrays.dsA m c := (r_ds m' c).trans ((congrArg (asRow _) e8).trans (k_ds m c).symm)

include e0 in
theorem same_s : Cert.ReferenceIdeal.Arrays.sA m' c = Cert.KernelIdeal.Arrays.sA m c := (r_s m' c).trans (e0.trans (k_s m c).symm)

include e1 in
theorem same_h : Cert.ReferenceIdeal.Arrays.hA m' c = Cert.KernelIdeal.Arrays.hA m c := (r_h m' c).trans (e1.trans (k_h m c).symm)

include e3 in
theorem same_wg : Cert.ReferenceIdeal.Arrays.wgA m' c = Cert.KernelIdeal.Arrays.wgA m c := (r_wg m' c).trans (e3.trans (k_wg m c).symm)

include e5 in
theorem same_wu : Cert.ReferenceIdeal.Arrays.wuA m' c = Cert.KernelIdeal.Arrays.wuA m c := (r_wu m' c).trans (e5.trans (k_wu m c).symm)

include e7 in
theorem same_wd : Cert.ReferenceIdeal.Arrays.wdA m' c = Cert.KernelIdeal.Arrays.wdA m c := (r_wd m' c).trans (e7.trans (k_wd m c).symm)

variable (hs : Cert.KernelIdeal.Arrays.sA m c (ix2 0 0) ≠ 0)

include hs

include e0 e2 e1 in
/-- The codes. -/
theorem same9 : ((Cert.ReferenceIdeal.Gen.dats m' 0 c).arrAt 9 Cert.ReferenceIdeal.cfg0.N : Mat 2048 1920) = (Cert.KernelIdeal.Gen.dats m 0 c).arrAt 9 Cert.KernelIdeal.cfg0.N := by
  refine (Cert.ReferenceIdeal.Arrays.arr9 m' c).trans (Eq.trans ?_ (Cert.KernelIdeal.Arrays.arr9 m c hs).symm)
  rw [same_s e0, same_g e2, same_h e1]

include e0 e2 e3 e4 e1 in
/-- The gate projection. -/
theorem same10 : ((Cert.ReferenceIdeal.Gen.dats m' 0 c).arrAt 10 Cert.ReferenceIdeal.cfg0.N : Mat 2048 5120) = (Cert.KernelIdeal.Gen.dats m 0 c).arrAt 10 Cert.KernelIdeal.cfg0.N := by
  refine (Cert.ReferenceIdeal.Arrays.arr10 m' c).trans (Eq.trans ?_ (Cert.KernelIdeal.Arrays.arr10 m c hs).symm)
  rw [same_s e0, same_g e2, same_wg e3, same_gs e4, same_h e1]

include e0 e2 e5 e6 e1 in
/-- The up projection. -/
theorem same11 : ((Cert.ReferenceIdeal.Gen.dats m' 0 c).arrAt 11 Cert.ReferenceIdeal.cfg0.N : Mat 2048 5120) = (Cert.KernelIdeal.Gen.dats m 0 c).arrAt 11 Cert.KernelIdeal.cfg0.N := by
  refine (Cert.ReferenceIdeal.Arrays.arr11 m' c).trans (Eq.trans ?_ (Cert.KernelIdeal.Arrays.arr11 m c hs).symm)
  rw [same_s e0, same_g e2, same_wu e5, same_us e6, same_h e1]

include e0 e2 e3 e4 e5 e6 e1 in
/-- The activation's codes. -/
theorem same12 : ((Cert.ReferenceIdeal.Gen.dats m' 0 c).arrAt 12 Cert.ReferenceIdeal.cfg0.N : Mat 2048 5120) = (Cert.KernelIdeal.Gen.dats m 0 c).arrAt 12 Cert.KernelIdeal.cfg0.N := by
  refine (Cert.ReferenceIdeal.Arrays.arr12 m' c).trans (Eq.trans ?_ (Cert.KernelIdeal.Arrays.arr12 m c hs).symm)
  rw [same_s e0, same_g e2, same_wg e3, same_gs e4, same_wu e5, same_us e6, same_h e1]

include e0 e2 e3 e4 e5 e6 e1 in
/-- The activation's scales. -/
theorem same13 : ((Cert.ReferenceIdeal.Gen.dats m' 0 c).arrAt 13 Cert.ReferenceIdeal.cfg0.N : Mat 2048 1) = (Cert.KernelIdeal.Gen.dats m 0 c).arrAt 13 Cert.KernelIdeal.cfg0.N := by
  refine (Cert.ReferenceIdeal.Arrays.arr13 m' c).trans (Eq.trans ?_ (Cert.KernelIdeal.Arrays.arr13 m c hs).symm)
  rw [same_s e0, same_g e2, same_wg e3, same_gs e4, same_wu e5, same_us e6, same_h e1]

include e0 e2 e3 e4 e5 e6 e7 e8 e1 in
/-- The down projection. -/
theorem same14 : ((Cert.ReferenceIdeal.Gen.dats m' 0 c).arrAt 14 Cert.ReferenceIdeal.cfg0.N : Mat 2048 1920) = (Cert.KernelIdeal.Gen.dats m 0 c).arrAt 14 Cert.KernelIdeal.cfg0.N := by
  refine (Cert.ReferenceIdeal.Arrays.arr14 m' c).trans (Eq.trans ?_ (Cert.KernelIdeal.Arrays.arr14 m c hs).symm)
  rw [same_s e0, same_g e2, same_wg e3, same_gs e4, same_wu e5, same_us e6, same_wd e7, same_ds e8, same_h e1]

include e0 e2 e3 e4 e5 e6 e7 e8 e1 in
/-- The residual sum. -/
theorem same15 : ((Cert.ReferenceIdeal.Gen.dats m' 0 c).arrAt 15 Cert.ReferenceIdeal.cfg0.N : Mat 2048 1920) = (Cert.KernelIdeal.Gen.dats m 0 c).arrAt 15 Cert.KernelIdeal.cfg0.N := by
  refine (Cert.ReferenceIdeal.Arrays.arr15 m' c).trans (Eq.trans ?_ (Cert.KernelIdeal.Arrays.arr15 m c hs).symm)
  rw [same_s e0, same_g e2, same_wg e3, same_gs e4, same_wu e5, same_us e6, same_wd e7, same_ds e8, same_h e1]

end Results

end Cert.Agree

end
-- ==== Proof.NormIdealRun.lean ====
/- The input's norm over the extended reals, run once on any buffers. The generated run of this program would state what the second
   loop stores through what the scratch held before the call. Here it is stated through what the first loop wrote there: the first
   loop writes all of the scratch, so what it held before does not matter. -/
module

public import proofs.«01_k».proof.Proof.Gen.NormIdeal.Frame.Runs
public import Idealize.ShloMosaic.Lib.Claim

@[expose] public section

set_option maxRecDepth 16384

noncomputable section

namespace Cert.NormIdeal.Hand

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the first loop leaves in the scratch -/

/-- One trip of the first loop writes one block of 128 rows of the scratch. -/
theorem trip1_piece (𝒱 : Variants) (bd : Option 𝒱.V) (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (X0 : BufTy.Contents (Elt F) arg0.view.ty) (X1 : BufTy.Contents (Elt F) arg1.view.ty) (k : Fin k0_t1_loop.trips) (acc : FVec F S8x128 .f32) :
    ∃ v, tripL_k0_t1 𝒱 c bd arg0 harg0 arg1 harg1 arg2 harg2 arg3 harg3 arg4 harg4 X0 X1 k acc
      = [⟨Rect.unit (s := S2048x128) (k0_off16 k) S128x128.size (k0_off16_inb k), v⟩] := by
  unfold tripL_k0_t1 trip_k0_t1
  exact ⟨_, rfl⟩

/-- Before trip `k` the blocks of the trips before it cover the first `128 * k` rows. -/
theorem st1_cover (𝒱 : Variants) (bd : Option 𝒱.V) (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (X0 : BufTy.Contents (Elt F) arg0.view.ty) (X1 : BufTy.Contents (Elt F) arg1.view.ty) (init : FVec F S8x128 .f32) :
    ∀ k : ℕ, k ≤ 16 → ∀ y : S2048x128.Idx, (y 0).val < 128 * k →
      ∃ p ∈ (st_k0_t1 𝒱 c bd arg0 harg0 arg1 harg1 arg2 harg2 arg3 harg3 arg4 harg4 X0 X1 init k).2, y ∈ p.1.set
  | 0, _, y, h => absurd h (by omega)
  | k + 1, hk, y, h => by
    have ht : k < k0_t1_loop.trips := by rw [show k0_t1_loop.trips = 16 from by decide]; omega
    have e := st_k0_t1_succ 𝒱 c bd arg0 harg0 arg1 harg1 arg2 harg2 arg3 harg3 arg4 harg4 X0 X1 init ⟨k, ht⟩
    dsimp only at e
    rw [e]
    obtain ⟨v, hv⟩ := trip1_piece 𝒱 bd c arg0 harg0 arg1 harg1 arg2 harg2 arg3 harg3 arg4 harg4 X0 X1 ⟨k, ht⟩ (st_k0_t1 𝒱 c bd arg0 harg0 arg1 harg1 arg2 harg2 arg3 harg3 arg4 harg4 X0 X1 init k).1
    dsimp only
    rw [hv]
    by_cases hy : (y 0).val < 128 * k
    · obtain ⟨p, hp, hpy⟩ := st1_cover 𝒱 bd c arg0 harg0 arg1 harg1 arg2 harg2 arg3 harg3 arg4 harg4 X0 X1 init k (by omega) y hy
      exact ⟨p, List.mem_append_right _ hp, hpy⟩
    · refine ⟨_, List.mem_append_left _ (List.mem_singleton.mpr rfl), ?_⟩
      rw [Rect.mem_set_unit]
      have h1 : (y 1).val < 128 := (y 1).isLt
      intro a
      have e16 := k0_off16_eq ⟨k, ht⟩
      rw [e16]
      match a with
      | ⟨0, _⟩ => exact ⟨by show 128 * k ≤ (y 0).val; omega, by show (y 0).val < 128 * k + 128; omega⟩
      | ⟨1, _⟩ => exact ⟨Nat.zero_le _, by show (y 1).val < 0 + 128; omega⟩

/-- So after the last trip the scratch's contents do not depend on what it held before. -/
theorem st1_writes (𝒱 : Variants) (bd : Option 𝒱.V) (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (X0 : BufTy.Contents (Elt F) arg0.view.ty) (X1 : BufTy.Contents (Elt F) arg1.view.ty) (init : FVec F S8x128 .f32)
    (f : BufTy.Contents (Elt F) arg4.view.ty) :
    arg4.view.writes (Elt F) f (st_k0_t1 𝒱 c bd arg0 harg0 arg1 harg1 arg2 harg2 arg3 harg3 arg4 harg4 X0 X1 init (Scf.trips k0_t1_loop.lb k0_t1_loop.ub k0_t1_loop.st)).2
      = harg4.unread (View.canon (st_k0_t1 𝒱 c bd arg0 harg0 arg1 harg1 arg2 harg2 arg3 harg3 arg4 harg4 X0 X1 init (Scf.trips k0_t1_loop.lb k0_t1_loop.ub k0_t1_loop.st)).2) :=
  harg4.eq_unread (View.read_writes_eq_canon _ _ _ fun y => by
    rw [show (Scf.trips k0_t1_loop.lb k0_t1_loop.ub k0_t1_loop.st) = 16 from by decide]
    exact st1_cover 𝒱 bd c arg0 harg0 arg1 harg1 arg2 harg2 arg3 harg3 arg4 harg4 X0 X1 init 16 le_rfl y (y 0).isLt)

/-- What the first loop leaves: the lane maxima it carries, and the blocks written to the scratch (last first). -/
def after1 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) :=
  st_k0_t1 (F := F) Variants.none c none arg0 harg0 arg1 harg1 arg2 harg2 arg3 harg3 arg4 harg4 (harg0.unread x0) (harg1.unread x1) k0_pay1
    (Scf.trips k0_t1_loop.lb k0_t1_loop.ub k0_t1_loop.st)

/-- What the second loop leaves in the codes' buffer, block by block (last first). -/
def left2 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) : List (View.Piece (Elt F) S2048x1920 .fp8e4m3) :=
  pb_k0_t2 (F := F) Variants.none c none arg0 harg0 arg1 harg1 arg2 harg2 arg3 harg3 arg4 harg4 (after1 c arg0 harg0 arg1 harg1 arg2 harg2 arg3 harg3 arg4 harg4 x0 x1).1 (harg0.unread x0) (harg1.unread x1)
    (harg4.unread (View.canon (after1 c arg0 harg0 arg1 harg1 arg2 harg2 arg3 harg3 arg4 harg4 x0 x1).2))
    (Scf.trips k0_t2_loop.lb k0_t2_loop.ub k0_t2_loop.st)

/-- What the body's stores leave in each output's buffer, as pieces (last first), with the proof that the body, on
    whole buffers holding the inputs, runs to its end and leaves those pieces. The second loop's pieces are stated
    through what the first loop wrote to the scratch (`st1_writes`), so they do not mention what it held before. -/
noncomputable def kernelRun0_A (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) :
    Σ' (L2 : List (View.Piece (Elt F) S2048x1920 .fp8e4m3)), { L3 : List (View.Piece (Elt F) S1x1 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ d, owns (c : Thread nD τ) arg4 fullShare d)) -∗ K ⟨⟩))
          ⊢ wp frame (wpE (defs₀ (F := F)) Variants.none c none) E (cc0_norm1 arg0 harg0 arg1 harg1 arg2 harg2 arg3 harg3 arg4 harg4) K } := by
  refine ⟨left2 c arg0 harg0 arg1 harg1 arg2 harg2 arg3 harg3 arg4 harg4 x0 x1, ?_, fun E K => ?run⟩
  case run =>
    simp only [cc0_norm1_eq_skeleton]; unfold cc0_norm1_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg0.eq_unread hf0; obtain rfl := harg1.eq_unread hf1
    sl_exec
    rw [st1_writes]
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    iexists _, _; isplitr; swap; · iexact HS0
    ipureintro; rfl

end Cert.NormIdeal.Hand

end
-- ==== Proof.NormIdealFrame.lean ====
/- The input's norm over the extended reals, the whole program: it runs to its end, leaves its arguments and every semaphore as
   they were, and its two results are the arrays that one run of the body stores. The text follows the generated modules of the
   other programs, over the run of NormIdealRun. -/
module

public import proofs.«01_k».proof.Proof.NormIdealRun
public import Idealize.ShloMosaic.Lib.Claim
public import Idealize.ShloMosaic.Lib.Pipeline.Value

@[expose] public section

set_option maxRecDepth 16384

noncomputable section

namespace Cert.NormIdeal.Hand

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the run stores in output 2 covers all of it. -/
theorem cover0_A_2 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) (y : S2048x1920.Idx) :
    ∃ pc ∈ (kernelRun0_A c arg0 harg0 arg1 harg1 arg2 harg2 arg3 harg3 arg4 harg4 x0 x1).1, y ∈ pc.1.set :=
  View.cover_of_tiledL (kernelRun0_A c arg0 harg0 arg1 harg1 arg2 harg2 arg3 harg3 arg4 harg4 x0 x1).1 S128x128.size (by sl_kernel_rfl) y

/-- What the run leaves in output 2's buffer. -/
def out0_A_2 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) : Vec F S2048x1920 .fp8e4m3 :=
  VO0_2.read (Elt F) (VO0_2.writes (Elt F) VO0_2.junk (kernelRun0_A c arg0 harg0 arg1 harg1 arg2 harg2 arg3 harg3 arg4 harg4 x0 x1).1)

/-- What the run stores in output 3 covers all of it. -/
theorem cover0_A_3 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) (y : S1x1.Idx) :
    ∃ pc ∈ (kernelRun0_A c arg0 harg0 arg1 harg1 arg2 harg2 arg3 harg3 arg4 harg4 x0 x1).2.1, y ∈ pc.1.set :=
  View.cover_of_tiledL (kernelRun0_A c arg0 harg0 arg1 harg1 arg2 harg2 arg3 harg3 arg4 harg4 x0 x1).2.1 S1x1.size (by sl_kernel_rfl) y

/-- What the run leaves in output 3's buffer. -/
def out0_A_3 (c : Dev nD) (arg0 : Memref sig .tc .vmem S2048x1920 .bf16) (harg0 : arg0.IsWhole) (arg1 : Memref sig .tc .vmem S1x1920 .f32) (harg1 : arg1.IsWhole) (arg2 : Memref sig .tc .vmem S2048x1920 .fp8e4m3) (harg2 : arg2.IsWhole) (arg3 : Memref sig .tc .smem S1x1 .f32) (harg3 : arg3.IsWhole) (arg4 : Memref sig .tc .vmem S2048x128 .f32) (harg4 : arg4.IsWhole)
    (x0 : Vec F S2048x1920 .bf16) (x1 : Vec F S1x1920 .f32) : Vec F S1x1 .f32 :=
  VO0_3.read (Elt F) (VO0_3.writes (Elt F) VO0_3.junk (kernelRun0_A c arg0 harg0 arg1 harg1 arg2 harg2 arg3 harg3 arg4 harg4 x0 x1).2.1)

/-! ## What the outputs hold after each point -/

/-- What the outputs' buffers hold after the body at point `t`. -/
def outsAt0 (c : Dev nD) (t : Fin cfg0.N) : Vec F S2048x1920 .fp8e4m3 × Vec F S1x1 .f32 :=
  (out0_A_2 c (ms0_0 t) (hs0_0 t) (ms0_1 t) (hs0_1 t) (ms0_2 t) (hs0_2 t) (ms0_3 t) (hs0_3 t) scM0_0 (Memref.isWhole_whole _) (iblk m c 0 t) (iblk m c 1 t), out0_A_3 c (ms0_0 t) (hs0_0 t) (ms0_1 t) (hs0_1 t) (ms0_2 t) (hs0_2 t) (ms0_3 t) (hs0_3 t) scM0_0 (Memref.isWhole_whole _) (iblk m c 0 t) (iblk m c 1 t))

/-! ## The pipeline's proof data -/

/-- On core `c`: the arrays as the call finds them; after the body at point `t` each input's buffer at its block and the outputs' at
    `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' buffers hold their blocks, so the run applies; the scratch has some contents before and some
    after; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_2 out0_A_3; (try dsimp only)
  iintro ⟨⟨HS0, Hg⟩, Ho, ⟨%d0, H0⟩, ⟨%d1, H1⟩, ⟨%d2, H2⟩, ⟨%d3, H3⟩⟩
  iapply ((kernelRun0_A c _ _ _ _ _ _ _ _ _ _ (iblk m c 0 t) (iblk m c 1 t)).2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, HS0⟩
  isplitl [HS0 Hg]
  · isplitl [HS0]
    · iexact HS0
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _)
  unfold owns; iexists _; isplitr
  swap; · iexact H3
  ipureintro; exact View.read_writes_of_cover _ _ _ _ _ (cover0_A_3 c _ _ _ _ _ _ _ _ _ _ _ _)

/-- The body that the call runs at point `t`. -/
theorem defs₀_row (t : Fin cfg0.N) :
    defs₀ (F := F) .tc cfg0.body (cfg0.bodyArgs t (cfg0.slots t)) = bodyAt0 t := by
  unfold defs₀; rw [Defs.onTc_tc]

/-- The body does so at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs to its end, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program runs to its end, every array of the call at what `dats` says, every other array as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The run ends, the arguments are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## What the point writes back, and the results -/

theorem flushed2 (c : Dev nD) (t : Fin cfg0.N) :
    (dats m 0 c).flushed 2 t = (cfg0.win 2).cut (grid0.coords t) ((outsAt0 m c t).1) := by
  show (cfg0.win 2).cut (grid0.coords t) ((dats m 0 c).after 2 t) = _
  rw [after0_2]

theorem flushed2_A (c : Dev nD) (t : Fin cfg0.N) :
    (dats m 0 c).flushed 2 t = (cfg0.win 2).cut (grid0.coords t) (out0_A_2 c (ms0_0 t) (hs0_0 t) (ms0_1 t) (hs0_1 t) (ms0_2 t) (hs0_2 t) (ms0_3 t) (hs0_3 t) scM0_0 (Memref.isWhole_whole _) (iblk m c 0 t) (iblk m c 1 t)) := by
  simp only [flushed2, outsAt0]

theorem flushed3 (c : Dev nD) (t : Fin cfg0.N) :
    (dats m 0 c).flushed 3 t = (cfg0.win 3).cut (grid0.coords t) ((outsAt0 m c t).2) := by
  show (cfg0.win 3).cut (grid0.coords t) ((dats m 0 c).after 3 t) = _
  rw [after0_3]

theorem flushed3_A (c : Dev nD) (t : Fin cfg0.N) :
    (dats m 0 c).flushed 3 t = (cfg0.win 3).cut (grid0.coords t) (out0_A_3 c (ms0_0 t) (hs0_0 t) (ms0_1 t) (hs0_1 t) (ms0_2 t) (hs0_2 t) (ms0_3 t) (hs0_3 t) scM0_0 (Memref.isWhole_whole _) (iblk m c 0 t) (iblk m c 1 t)) := by
  simp only [flushed3, outsAt0]

theorem post2 (r : PUnit × MemSt nD τ sig (Elt F)) (h : Pipeline.FramePost cfgs (dats m) 0 (V m) r) (c : Dev nD) :
    r.2.mem ((c : Thread nD τ).loc main_v2_0) = (dats m 0 c).arrAt 2 cfg0.N :=
  (h c).1 2

theorem post3 (r : PUnit × MemSt nD τ sig (Elt F)) (h : Pipeline.FramePost cfgs (dats m) 0 (V m) r) (c : Dev nD) :
    r.2.mem ((c : Thread nD τ).loc main_v2_1) = (dats m 0 c).arrAt 3 cfg0.N :=
  (h c).1 3

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The program runs to its end with both results at the call's arrays and its arguments as they were. -/
theorem run_blocks : θ_run defs (onTc (τ := τ) (main (F := F))) ⟨m, fun _ => 0, ρ⟩ fun r => ∀ c : Dev nD,
      r.2.mem ((c : Thread nD τ).loc main_v2_0) = (dats m 0 c).arrAt 2 cfg0.N
      ∧ r.2.mem ((c : Thread nD τ).loc main_v2_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      kept_main_arg0 m r h c,
      kept_main_arg1 m r h c⟩)
    (run_main m ρ)

end Cert.NormIdeal.Hand

end
-- ==== Proof.NormRows.lean ====
/- The first call's results as functions of whole arrays: every row normalised, the largest absolute value of the whole
   matrix, the one scale it gives, and the codes. With them, the laws that read the kernel's arrangement of the same
   arithmetic as these functions: reciprocals in place of divisions, a sum over 128 lanes taken in sixteen groups of eight
   sublanes, and a maximum taken in any order. -/
module

public import proofs.«01_k».proof.Proof.Results

@[expose] public section

noncomputable section

namespace Cert.Rows

open Idealize.ShloMosaic

/-- A row normalised and scaled by `g`. -/
def normed {n : ℕ} (h g : Fin n → EReal) (j : Fin n) : EReal := Ideal.div (h j) (rms h) * g j

/-- The largest absolute value of a matrix. -/
def topAbs {n m : ℕ} (A : Fin n → Fin m → EReal) : EReal :=
  Finset.fold max lowest (fun i : Fin n × Fin m => max (A i.1 i.2) (-A i.1 i.2)) Finset.univ

/-- The scale that a largest absolute value gives: 1 for zero, that value over 448 otherwise. -/
def scaleOf (a : EReal) : EReal := if a = 0 then 1 else Ideal.div a top8

theorem topAbs_le_iff {n m : ℕ} (A : Fin n → Fin m → EReal) (b : EReal) :
    topAbs A ≤ b ↔ ∀ r j, max (A r j) (-A r j) ≤ b := by
  unfold topAbs; rw [Finset.fold_max_le, lowest_eq]; simp

theorem top8_ne_zero : top8 ≠ 0 := by rw [top8_eq]; exact_mod_cast (by norm_num : (448 : ℝ) ≠ 0)

theorem scaleOf_ne_zero (a : EReal) : scaleOf a ≠ 0 := by
  unfold scaleOf
  split_ifs with h
  · exact one_ne_zero
  · rw [div_eq top8_ne_zero, top8_eq, ← EReal.coe_inv]
    exact mul_ne_zero h (by exact_mod_cast (by norm_num : (448 : ℝ)⁻¹ ≠ 0))

/-- The scale with a multiplication by the exact reciprocal of 448. -/
theorem scaleOf_eq (a : EReal) : (if a = 0 then 1 else a * ((448⁻¹ : ℝ) : EReal)) = scaleOf a := by
  unfold scaleOf; rw [div_eq top8_ne_zero, top8_eq, ← EReal.coe_inv]

/-- The root of the mean of squares, the mean taken by a multiplication with the exact reciprocal of the row's length. -/
theorem rms_eq {n : ℕ} (h : Fin n → EReal) : Ideal.sqrt ((∑ x, h x * h x) * ((1920⁻¹ : ℝ) : EReal) + eps) = rms h := by
  unfold rms
  rw [div_eq (by rw [width_eq]; exact_mod_cast (by norm_num : (1920 : ℝ) ≠ 0)), width_eq, ← EReal.coe_inv]

/-- The normalised row by the reciprocal of its root. -/
theorem normed_eq {n : ℕ} (h g : Fin n → EReal) (j : Fin n) : h j * Ideal.div 1 (rms h) * g j = normed h g j := by
  unfold normed; rw [div_one_eq (rms_ne_zero h), div_eq (rms_ne_zero h)]

/-- The codes are the normalised row over the scale, clipped. -/
theorem codes_normed {n : ℕ} (h g : Fin n → EReal) (s : EReal) (j : Fin n) : codes h g s j = clip8 (Ideal.div (normed h g j) s) := rfl

/-- The scale of a whole matrix, its rows normalised. -/
def scaleM {n m : ℕ} (x : Mat n m) (g : Mat 1 m) : Mat 1 1 :=
  fun _ => scaleOf (topAbs fun r : Fin n => normed (fun j => x (ix2 r j)) (fun j => g (ix2 0 j)))

/-- The codes of a whole matrix. -/
def codesM {n m : ℕ} (x : Mat n m) (g : Mat 1 m) : Mat n m :=
  fun y => codes (fun j => x (ix2 (y 0) j)) (fun j => g (ix2 0 j)) (scaleM x g (ix2 0 0)) (y 1)

/-! ## Sums in groups -/

/-- A sum over `m * n` terms as `m` groups of `n`. -/
theorem sum_groups {m n N : ℕ} (hN : m * n = N) (f : Fin N → EReal) (F : Fin m → Fin n → EReal)
    (H : ∀ (q : Fin m) (l : Fin n) (h : n * (q : ℕ) + l < N), F q l = f ⟨n * q + l, h⟩) : ∑ q, ∑ l, F q l = ∑ x, f x := by
  subst hN
  rw [← Fintype.sum_prod_type', ← finProdFinEquiv.sum_comp]
  refine Finset.sum_congr rfl fun x _ => ?_
  have e : ((finProdFinEquiv x : Fin (m * n)) : ℕ) = n * (x.1 : ℕ) + x.2 := by
    simp [finProdFinEquiv]; omega
  rw [H x.1 x.2 (by rw [← e]; exact (finProdFinEquiv x).isLt)]
  exact congrArg f (Fin.ext e.symm)

/-- Sublane `s` of eight, `k` places back, around the end. -/
def back (k : ℕ) (s : Fin 8) : Fin 8 := ⟨((s : ℕ) + 8 - k % 8) % 8, Nat.mod_lt _ (by decide)⟩

/-- Adding to every sublane the one four places back, then two, then one, leaves the sum of all eight in each. -/
theorem sum_back (f : Fin 8 → EReal) (s : Fin 8) :
    (f s + f (back 4 s) + (f (back 2 s) + f (back 4 (back 2 s))))
      + (f (back 1 s) + f (back 4 (back 1 s)) + (f (back 2 (back 1 s)) + f (back 4 (back 2 (back 1 s))))) = ∑ x, f x := by
  rw [Fin.sum_univ_eight]
  have a : ∀ k, ∀ s : Fin 8, ∀ t : Fin 8, ((s : ℕ) + 8 - k % 8) % 8 = t → back k s = t := fun k s t h => Fin.ext h
  fin_cases s <;> simp only [back] <;> simp <;> abel

end Cert.Rows

end
-- ==== Proof.NormTiles.lean ====
/- The first call's tiles of 128 rows and 128 columns, at an index. A tile of a row block is read and widened; the rows' sums of
   squares are taken over the fifteen tiles of a row block; the reciprocal root is spread over the lanes; the maximum of absolute
   values is kept as eight rows of lanes; and a tile of codes is the tile scaled and clipped. -/
module

public import proofs.«01_k».proof.Proof.NormIdealFrame
public import proofs.«01_k».proof.Proof.NormRows
public import Idealize.ShloMosaic.Lib.Pointwise
public import Idealize.ShloMosaic.Lib.Pointwise.Index
public import Idealize.ShloMosaic.Lib.KernelVsHost
public import Idealize.ShloMosaic.Lib.ValueLayout
public import Idealize.ShloMosaic.Lib.Pipeline.ValueKit.Tiles

@[expose] public section

set_option maxRecDepth 16384

noncomputable section

namespace Cert.NormIdeal.Tiles

open Cert.NormIdeal Cert.NormIdeal.Gen Cert.Rows Idealize.ShloMosaic

/-- A tile of values. -/
abbrev Tile : Type := FVec Ideal S128x128 .f32

/-! ## Bounds of maxima -/

/-- A bound of every result of a maximum reduction is a bound of every element reduced. -/
theorem reduce_le {s t : Shape} {axes : List (Fin s.rank)} (src : FVec Ideal s .f32) (h : s.Reduces axes t) (hφ : FKind.Formats .f32)
    (hacc : (0xFF800000#32 : BitVec (FTy.f32).bits) = FKind.maximumf.neutral .f32 hφ) (b : EReal) :
    (∀ j, multiReduction .maximumf axes t src 0xFF800000#32 h hφ hacc j ≤ b) ↔ ∀ i, src i ≤ b := by
  have e : ∀ j, multiReduction .maximumf axes t src 0xFF800000#32 h hφ hacc j ≤ b ↔ ∀ i, h.drop i = j → src i ≤ b := by
    intro j
    rw [multiReduction_maximumf_eq_fold]
    refine Iff.trans (Finset.fold_max_le (b := lowest) (f := src) b) ?_
    rw [lowest_eq]; simp
  exact ⟨fun H i => (e _).mp (H (h.drop i)) i rfl, fun H j => (e j).mpr fun i _ => H i⟩

/-- Reshaping moves no value. -/
theorem shapeCast_le {s t : Shape} (x : s.Idx → EReal) (h : s.ShapeCasts t) (b : EReal) :
    (∀ j, shapeCast t x h j ≤ b) ↔ ∀ i, x i ≤ b := by
  refine ⟨fun H i => ?_, fun H j => H _⟩
  have := H ((Shape.reshapeEquiv h).symm i)
  unfold shapeCast at this
  rwa [Equiv.apply_symm_apply] at this

theorem turn_apply (x : Tile) (h : S128x128.Transposes [1, 0] S128x128) (i j : Fin 128) : transpose S128x128 [1, 0] x h (ix2 j i) = x (ix2 i j) :=
  ValueIdx.transpose_ix2_apply x h j i

/-! ## The rows' sums of squares -/

/-- A tile read and widened. -/
def wide (v : Vec Ideal S128x128 .bf16) : Tile :=
  extf .f32 (shapeCast S128x128 v shapeCasts_S128x128_S128x128) bitsLt_bf16_f32

theorem wide_apply (v : Vec Ideal S128x128 .bf16) (i l : Fin 128) : wide v (ix2 i l) = v (ix2 i l) := by
  pointwise [wide]

/-- The squares of fifteen tiles summed, the rows along the lanes. -/
def squares (V : Fin 15 → Tile) : Tile :=
  transpose S128x128 [1, 0] (([1, 2, 3, 4, 5, 6, 7, 8, 9, 10, 11, 12, 13, 14] : List (Fin 15)).foldl
    (fun s t => addf s (mulf (V t) (V t))) (mulf (V 0) (V 0))) transposes_S128x128_p1_0_S128x128

theorem squares_apply (V : Fin 15 → Tile) (i l : Fin 128) :
    squares V (ix2 l i) = ∑ t, V t (ix2 i l) * V t (ix2 i l) := by
  unfold squares
  rw [turn_apply]
  simp only [Fin.sum_univ_castSucc, Fin.sum_univ_zero, zero_add]
  rfl

/-- Eight rows of a tile. -/
abbrev eight (o : ℕ) (T : Tile) (h : S128x128.Slices ![o, 0] S8x128) : FVec Ideal S8x128 .f32 := extractStridedSlice S8x128 ![o, 0] T h

/-- The first six groups of eight rows summed. -/
def sixth (T : Tile) : FVec Ideal S8x128 .f32 :=
  addf (addf (addf (addf (addf (eight 0 T slices_S128x128_o0_0_S8x128) (eight 8 T slices_S128x128_o8_0_S8x128)) (eight 16 T slices_S128x128_o16_0_S8x128))
    (eight 24 T slices_S128x128_o24_0_S8x128)) (eight 32 T slices_S128x128_o32_0_S8x128)) (eight 40 T slices_S128x128_o40_0_S8x128)

/-- All sixteen groups of eight rows summed. -/
def groups (T : Tile) : FVec Ideal S8x128 .f32 :=
  addf (addf (addf (addf (addf (addf (addf (addf (addf (addf (sixth T) (eight 48 T slices_S128x128_o48_0_S8x128))
    (eight 56 T slices_S128x128_o56_0_S8x128)) (eight 64 T slices_S128x128_o64_0_S8x128)) (eight 72 T slices_S128x128_o72_0_S8x128))
    (eight 80 T slices_S128x128_o80_0_S8x128)) (eight 88 T slices_S128x128_o88_0_S8x128)) (eight 96 T slices_S128x128_o96_0_S8x128))
    (eight 104 T slices_S128x128_o104_0_S8x128)) (eight 112 T slices_S128x128_o112_0_S8x128)) (eight 120 T slices_S128x128_o120_0_S8x128)

theorem eight_apply (o : ℕ) (T : Tile) (h : S128x128.Slices ![o, 0] S8x128) (s : Fin 8) (i : Fin 128) (ho : o + s < 128) :
    eight o T h (ix2 s i) = T (ix2 ⟨o + s, ho⟩ i) := by
  refine extractStridedSlice_apply _ T h _ _ ?_
  intro a; fin_cases a
  · rfl
  · exact (Nat.zero_add _).symm

theorem groups_apply (T : Tile) (s : Fin 8) (i : Fin 128) :
    groups T (ix2 s i) = ∑ q : Fin 16, T (ix2 ⟨8 * q + s, by omega⟩ i) := by
  have e : ∀ o h (ho : o + (s : ℕ) < 128), eight o T h (ix2 s i) = T (ix2 ⟨o + s, ho⟩ i) := fun o h ho => eight_apply o T h s i ho
  simp only [Fin.sum_univ_castSucc, Fin.sum_univ_zero, zero_add]
  unfold groups sixth
  have a : ∀ (u v : FVec Ideal S8x128 .f32) x, addf u v x = u x + v x := fun _ _ _ => rfl
  simp only [a]
  rw [e 0 _ (by omega), e 8 _ (by omega), e 16 _ (by omega), e 24 _ (by omega), e 32 _ (by omega), e 40 _ (by omega), e 48 _ (by omega),
    e 56 _ (by omega), e 64 _ (by omega), e 72 _ (by omega), e 80 _ (by omega), e 88 _ (by omega), e 96 _ (by omega), e 104 _ (by omega),
    e 112 _ (by omega), e 120 _ (by omega)]
  rfl

/-- Eight rows with the ones `k` places back added. -/
def roll (k : BitVec 32) (w : FVec Ideal S8x128 .f32) : FVec Ideal S8x128 .f32 := addf w (dynamicRotate 0 k none w rotates_S8x128_d0)

theorem roll_apply (k : BitVec 32) (w : FVec Ideal S8x128 .f32) (s : Fin 8) (i : Fin 128) :
    roll k w (ix2 s i) = w (ix2 s i) + w (ix2 (back k.toNat s) i) := by
  refine congrArg (w (ix2 s i) + ·) (dynamicRotate_apply _ _ _ _ _ _ ?_)
  intro b; fin_cases b <;> rfl

/-- The reciprocal root of the mean, from the sums, spread over the lanes with the rows back along the rows. -/
def spread (w : FVec Ideal S8x128 .f32) : Tile :=
  transpose S128x128 [1, 0] (concatenate S128x128 0 (List.replicate 16 ⟨S8x128,
    divf (broadcast S8x128 (Scalar.ofBits .f32 0x3F800000#32)) (sqrt (addf (mulf w (broadcast S8x128 (Named.named κ "inv_width" 0x3A088889#32)))
      (broadcast S8x128 (Scalar.ofBits .f32 0x358637BD#32))))⟩) concatenates_S8x128_S8x128_S8x128_S8x128_S8x128_S8x128_S8x128_S8x128_S8x128_S8x128_S8x128_S8x128_S8x128_S8x128_S8x128_S8x128_S128x128_d0)
    transposes_S128x128_p1_0_S128x128

theorem spread_apply (w : FVec Ideal S8x128 .f32) (i l : Fin 128) :
    spread w (ix2 i l) = Ideal.div 1 (Ideal.sqrt (w (ix2 ⟨(l : ℕ) % 8, Nat.mod_lt _ (by decide)⟩ i) * ((1920⁻¹ : ℝ) : EReal) + eps)) := by
  unfold spread
  rw [turn_apply]
  refine (concatenate_replicate_apply (t := S128x128) (s₁ := S8x128) 0 16 _ _ rfl (ix2 l i) (ix2 ⟨(l : ℕ) % 8, Nat.mod_lt _ (by decide)⟩ i) rfl ?_).trans ?_
  · intro b hb; fin_cases b
    · exact absurd rfl hb
    · rfl
  · pointwise; rfl

/-- The reciprocal roots of a row block, from its sums of squares. -/
def rstd (T : Tile) : Tile := spread (roll 1#32 (roll 2#32 (roll 4#32 (groups T))))

theorem pay22_eq (v0 v1 v2 v3 v4 v5 v6 v7 v8 v9 v10 : Tile) (v11 v12 v13 v14 : Vec Ideal S128x128 .bf16) :
    k0_pay22 v0 v1 v2 v3 v4 v5 v6 v7 v8 v9 v10 v11 v12 v13 v14 = sixth (k0_pay21 v0 v1 v2 v3 v4 v5 v6 v7 v8 v9 v10 v11 v12 v13 v14) := rfl

theorem pay23_eq (T : Tile) : k0_pay23 T (sixth T) = rstd T := rfl

theorem pay24_eq (T : Tile) (i l : Fin 128) : k0_pay24 T (sixth T) (ix2 i l) = rstd T (ix2 i l) := by
  unfold k0_pay24; rw [pay23_eq]; pointwise

/-- The reciprocal roots of a row block are the rows' own. -/
theorem rstd_apply (V : Fin 15 → Tile) (x : Fin 1920 → EReal) (i : Fin 128)
    (H : ∀ (t : Fin 15) (l : Fin 128), V t (ix2 i l) = x ⟨128 * t + l, by omega⟩) (l : Fin 128) :
    rstd (squares V) (ix2 i l) = Ideal.div 1 (rms x) := by
  unfold rstd
  rw [spread_apply, ← rms_eq]
  simp only [roll_apply]
  rw [show (1#32).toNat = 1 from rfl, show (2#32).toNat = 2 from rfl, show (4#32).toNat = 4 from rfl,
    sum_back (fun s => groups (squares V) (ix2 s i))]
  simp only [groups_apply, squares_apply]
  rw [Finset.sum_comm, sum_groups (N := 128) (by norm_num) (fun r : Fin 128 => ∑ t, V t (ix2 i r) * V t (ix2 i r)) _ (fun q s h => rfl),
    Finset.sum_comm, sum_groups (N := 1920) (by norm_num) (fun j => x j * x j) _ (fun t l h => by rw [H])]

/-! ## The maximum of absolute values in eight rows of lanes -/

/-- A tile times the reciprocal roots and the norm's weights. -/
def scaled (r : Tile) (p : Tile × Vec Ideal S1x128 .f32) : Tile :=
  mulf (mulf p.1 r) (broadcastTo S128x128 (shapeCast S1x128 p.2 shapeCasts_S1x128_S1x128) broadcasts_S1x128_S128x128)

theorem scaled_apply (r : Tile) (p : Tile × Vec Ideal S1x128 .f32) (i l : Fin 128) :
    scaled r p (ix2 i l) = p.1 (ix2 i l) * r (ix2 i l) * p.2 (ix2 0 l) := by
  pointwise [scaled]

/-- The lanes' maxima after one more tile. -/
def more (r : Tile) (m : FVec Ideal S8x128 .f32) (p : Tile × Vec Ideal S1x128 .f32) : FVec Ideal S8x128 .f32 :=
  maximumf m (multiReduction .maximumf [0] S8x128 (shapeCast S16x8x128 (absf (scaled r p)) shapeCasts_S128x128_S16x8x128)
    0xFF800000#32 reduces_S16x8x128_S8x128 (.inl rfl) rfl)

theorem more_le (r : Tile) (m : FVec Ideal S8x128 .f32) (p : Tile × Vec Ideal S1x128 .f32) (b : EReal) :
    (∀ j, more r m p j ≤ b) ↔ (∀ j, m j ≤ b) ∧ ∀ i, max (scaled r p i) (-scaled r p i) ≤ b := by
  have e : ∀ j, more r m p j ≤ b ↔ m j ≤ b ∧ multiReduction .maximumf [0] S8x128 (shapeCast S16x8x128 (absf (scaled r p)) shapeCasts_S128x128_S16x8x128)
      0xFF800000#32 reduces_S16x8x128_S8x128 (.inl rfl) rfl j ≤ b := fun j => max_le_iff
  simp only [e, forall_and]
  exact and_congr_right fun _ => (reduce_le _ _ _ _ b).trans (shapeCast_le _ _ b)

theorem foldl_le (r : Tile) (b : EReal) : ∀ (L : List (Tile × Vec Ideal S1x128 .f32)) (m : FVec Ideal S8x128 .f32),
    (∀ j, L.foldl (more r) m j ≤ b) ↔ (∀ j, m j ≤ b) ∧ ∀ p ∈ L, ∀ i, max (scaled r p i) (-scaled r p i) ≤ b
  | [], m => by simp
  | p :: L, m => by
    rw [List.foldl_cons, foldl_le r b L, more_le, List.forall_mem_cons, and_assoc]

/-- The lanes' maxima after a row block. -/
def block (m : FVec Ideal S8x128 .f32) (r : Tile) (V : Fin 15 → Tile) (g : Fin 15 → Vec Ideal S1x128 .f32) : FVec Ideal S8x128 .f32 :=
  (([0, 1, 2, 3, 4, 5, 6, 7, 8, 9, 10, 11, 12, 13, 14] : List (Fin 15)).map fun t => (V t, g t)).foldl (more r) m

theorem block_le (m : FVec Ideal S8x128 .f32) (r : Tile) (V : Fin 15 → Tile) (g : Fin 15 → Vec Ideal S1x128 .f32) (b : EReal) :
    (∀ j, block m r V g j ≤ b) ↔ (∀ j, m j ≤ b) ∧ ∀ t i, max (scaled r (V t, g t) i) (-scaled r (V t, g t) i) ≤ b := by
  unfold block
  rw [foldl_le]
  refine and_congr_right fun _ => ⟨fun H t => H _ (List.mem_map.mpr ⟨t, by revert t; decide, rfl⟩), fun H p hp => ?_⟩
  obtain ⟨t, -, rfl⟩ := List.mem_map.mp hp
  exact H t

theorem pay1_apply (j : S8x128.Idx) : k0_pay1 (F := Ideal) j = 0 := by
  rw [eq_ix2 j]; pointwise [k0_pay1]

/-! ## The scale -/

/-- The largest of the lanes' maxima. -/
def peak (m : FVec Ideal S8x128 .f32) : EReal :=
  extractAt ![0, 0, 0] (shapeCast S1x1x1 (multiReduction .maximumf [1, 2] S1 (shapeCast S1x8x128 m shapeCasts_S8x128_S1x8x128)
    0xFF800000#32 reduces_S1x8x128_S1 (.inl rfl) rfl) shapeCasts_S1_S1x1x1) inpos_S1x1x1_p0_0_0

theorem peak_le (m : FVec Ideal S8x128 .f32) (b : EReal) : peak m ≤ b ↔ ∀ j, m j ≤ b := by
  rw [← shapeCast_le m shapeCasts_S8x128_S1x8x128, ← reduce_le _ reduces_S1x8x128_S1 (.inl rfl) rfl]
  refine ⟨fun H j => ?_, fun H => H _⟩
  have e : ∀ a b : S1.Idx, a = b := fun a b => by
    funext k; fin_cases k; exact Subsingleton.elim (α := Fin 1) _ _
  rw [e j]; exact H

theorem choose_eq (p : EReal) :
    select (cmpf .oeq (broadcast S1x1 p : FVec Ideal S1x1 .f32) (broadcast S1x1 (Scalar.ofBits .f32 0x00000000#32)))
      (broadcast S1x1 (Scalar.ofBits .f32 0x3F800000#32)) (mulf (broadcast S1x1 p : FVec Ideal S1x1 .f32)
        (broadcast S1x1 (Named.named κ "inv_fp8_max" 0x3B124925#32))) (ix2 0 0)
      = if p = 0 then 1 else p * ((448⁻¹ : ℝ) : EReal) := by
  pointwise; rfl

theorem pay3_eq (m : FVec Ideal S8x128 .f32) : k0_pay3 m = scaleOf (peak m) := by
  rw [← scaleOf_eq]
  have e : k0_pay3 m = Scalar.select (Scalar.cmpf (F := Ideal) (φ := .f32) .oeq (peak m) (Scalar.ofBits .f32 0x00000000#32))
      (Scalar.ofBits .f32 0x3F800000#32) (Scalar.mulf (F := Ideal) (φ := .f32) (peak m) (Named.named κ "inv_fp8_max" 0x3B124925#32)) := rfl
  rw [e]
  generalize peak m = p
  exact choose_eq p

theorem pay4_apply (m : FVec Ideal S8x128 .f32) (l : Fin 128) : k0_pay4 m (ix2 0 l) = Ideal.div 1 (k0_pay3 m) := by
  pointwise [k0_pay4]

/-! ## The codes -/

/-- A tile of codes. -/
def codesT (s : FVec Ideal S1x128 .f32) (r : Tile) (v : Vec Ideal S128x128 .bf16) (g : Vec Ideal S1x128 .f32) : FVec Ideal S128x128 .fp8e4m3 :=
  truncf .fp8e4m3 (minimumf (broadcast S128x128 (Scalar.ofBits .f32 0x43E00000#32)) (maximumf (broadcast S128x128 (Scalar.ofBits .f32 0xC3E00000#32))
    (mulf (scaled r (wide v, g)) (broadcastTo S128x128 s broadcasts_S1x128_S128x128)))) bitsLt_fp8e4m3_f32

theorem codesT_apply (s : FVec Ideal S1x128 .f32) (r : Tile) (v : Vec Ideal S128x128 .bf16) (g : Vec Ideal S1x128 .f32) (i l : Fin 128) :
    codesT s r v g (ix2 i l) = clip8 (v (ix2 i l) * r (ix2 i l) * g (ix2 0 l) * s (ix2 0 l)) := by
  pointwise [codesT, scaled, wide]; rfl

end Cert.NormIdeal.Tiles

end
-- ==== Proof.NormLoops.lean ====
/- The first call's two loops over the extended reals. After the first loop the scratch holds every row's reciprocal root and the
   lanes' maxima bound exactly what the absolute values of the normalised rows bound; the second loop stores every row's codes. -/
module

public import proofs.«01_k».proof.Proof.NormTiles

@[expose] public section

set_option maxRecDepth 16384

noncomputable section

namespace Cert.NormIdeal.Loops

open Cert.NormIdeal Cert.NormIdeal.Gen Cert.NormIdeal.Hand Cert.NormIdeal.Tiles Cert.Rows Idealize.ShloMosaic Idealize.ShloMosaic.TcCoe

variable (c : Dev nD) (arg0 : Memref sig .tc .vmem S2048x1920 .bf16) (harg0 : arg0.IsWhole) (arg1 : Memref sig .tc .vmem S1x1920 .f32) (harg1 : arg1.IsWhole)
  (arg2 : Memref sig .tc .vmem S2048x1920 .fp8e4m3) (harg2 : arg2.IsWhole) (arg3 : Memref sig .tc .smem S1x1 .f32) (harg3 : arg3.IsWhole)
  (arg4 : Memref sig .tc .vmem S2048x128 .f32) (harg4 : arg4.IsWhole)
  (x0 : Vec Ideal S2048x1920 .bf16) (x1 : Vec Ideal S1x1920 .f32)

/-! ## Reading tiles -/

theorem emb_at {n m n' m' K T : ℕ} {off : Fin 2 → ℕ} (ho : off = ![K, T])
    (inb : ∀ a, off a + (⟨2, ![n', m']⟩ : Shape).size a ≤ (⟨2, ![n, m]⟩ : Shape).size a) (i : Fin n') (l : Fin m') (hK : K + i < n) (hT : T + l < m) :
    (Rect.unit (s := ⟨2, ![n, m]⟩) off (⟨2, ![n', m']⟩ : Shape).size inb).emb (ix2 i l) = ix2 ⟨K + i, hK⟩ ⟨T + l, hT⟩ := by
  subst ho
  funext a; fin_cases a
  · refine Fin.ext ?_; rw [Rect.emb_apply]; show K + 1 * (i : ℕ) = K + i; omega
  · refine Fin.ext ?_; rw [Rect.emb_apply]; show T + 1 * (l : ℕ) = T + l; omega

theorem ld_at {n m n' m' K T : ℕ} {e : EltTy} (X : Vec Ideal ⟨2, ![n, m]⟩ e) {off : Fin 2 → ℕ} (ho : off = ![K, T])
    (inb : ∀ a, off a + (⟨2, ![n', m']⟩ : Shape).size a ≤ (⟨2, ![n, m]⟩ : Shape).size a) (i : Fin n') (l : Fin m') (hK : K + i < n) (hT : T + l < m) :
    View.ld X (Rect.unit (s := ⟨2, ![n, m]⟩) off (⟨2, ![n', m']⟩ : Shape).size inb) (ix2 i l) = X (ix2 ⟨K + i, hK⟩ ⟨T + l, hT⟩) := by
  subst ho
  refine View.ld_unit_apply_of X _ _ _ _ _ ?_
  intro a; fin_cases a <;> rfl

theorem read0 {K T : ℕ} {off : Fin 2 → ℕ} (ho : off = ![K, T]) (inb : ∀ a, off a + S128x128.size a ≤ S2048x1920.size a) (i l : Fin 128)
    (hK : K + i < 2048) (hT : T + l < 1920) :
    View.readAt (Elt Ideal) arg0.view (Rect.unit (s := S2048x1920) off S128x128.size inb).toLoadRect (harg0.unread x0) (ix2 i l)
      = x0 (ix2 ⟨K + i, hK⟩ ⟨T + l, hT⟩) := by
  rw [View.readAt_eq_ld, harg0.read_unread]; exact ld_at x0 ho inb i l hK hT

theorem read1 {T : ℕ} {off : Fin 2 → ℕ} (ho : off = ![0, T]) (inb : ∀ a, off a + S1x128.size a ≤ S1x1920.size a) (l : Fin 128) (hT : T + l < 1920) :
    View.readAt (Elt Ideal) arg1.view (Rect.unit (s := S1x1920) off S1x128.size inb).toLoadRect (harg1.unread x1) (ix2 0 l)
      = x1 (ix2 0 ⟨T + l, hT⟩) := by
  rw [View.readAt_eq_ld, harg1.read_unread]; exact ld_at x1 ho inb 0 l (by norm_num) hT

/-! ## The first loop -/

/-- The fifteen tiles of row block `k`. -/
def tiles (k : Fin k0_t1_loop.trips) : Fin 15 → Tile :=
  ![wide (View.readAt (Elt Ideal) arg0.view (Rect.unit (s := S2048x1920) (k0_off1 k) S128x128.size (k0_off1_inb k)).toLoadRect (harg0.unread x0)),
    wide (View.readAt (Elt Ideal) arg0.view (Rect.unit (s := S2048x1920) (k0_off2 k) S128x128.size (k0_off2_inb k)).toLoadRect (harg0.unread x0)),
    wide (View.readAt (Elt Ideal) arg0.view (Rect.unit (s := S2048x1920) (k0_off3 k) S128x128.size (k0_off3_inb k)).toLoadRect (harg0.unread x0)),
    wide (View.readAt (Elt Ideal) arg0.view (Rect.unit (s := S2048x1920) (k0_off4 k) S128x128.size (k0_off4_inb k)).toLoadRect (harg0.unread x0)),
    wide (View.readAt (Elt Ideal) arg0.view (Rect.unit (s := S2048x1920) (k0_off5 k) S128x128.size (k0_off5_inb k)).toLoadRect (harg0.unread x0)),
    wide (View.readAt (Elt Ideal) arg0.view (Rect.unit (s := S2048x1920) (k0_off6 k) S128x128.size (k0_off6_inb k)).toLoadRect (harg0.unread x0)),
    wide (View.readAt (Elt Ideal) arg0.view (Rect.unit (s := S2048x1920) (k0_off7 k) S128x128.size (k0_off7_inb k)).toLoadRect (harg0.unread x0)),
    wide (View.readAt (Elt Ideal) arg0.view (Rect.unit (s := S2048x1920) (k0_off8 k) S128x128.size (k0_off8_inb k)).toLoadRect (harg0.unread x0)),
    wide (View.readAt (Elt Ideal) arg0.view (Rect.unit (s := S2048x1920) (k0_off9 k) S128x128.size (k0_off9_inb k)).toLoadRect (harg0.unread x0)),
    wide (View.readAt (Elt Ideal) arg0.view (Rect.unit (s := S2048x1920) (k0_off10 k) S128x128.size (k0_off10_inb k)).toLoadRect (harg0.unread x0)),
    wide (View.readAt (Elt Ideal) arg0.view (Rect.unit (s := S2048x1920) (k0_off11 k) S128x128.size (k0_off11_inb k)).toLoadRect (harg0.unread x0)),
    wide (View.readAt (Elt Ideal) arg0.view (Rect.unit (s := S2048x1920) (k0_off12 k) S128x128.size (k0_off12_inb k)).toLoadRect (harg0.unread x0)),
    wide (View.readAt (Elt Ideal) arg0.view (Rect.unit (s := S2048x1920) (k0_off13 k) S128x128.size (k0_off13_inb k)).toLoadRect (harg0.unread x0)),
    wide (View.readAt (Elt Ideal) arg0.view (Rect.unit (s := S2048x1920) (k0_off14 k) S128x128.size (k0_off14_inb k)).toLoadRect (harg0.unread x0)),
    wide (View.readAt (Elt Ideal) arg0.view (Rect.unit (s := S2048x1920) (k0_off15 k) S128x128.size (k0_off15_inb k)).toLoadRect (harg0.unread x0))]

/-- The weights' fifteen tiles. -/
def weights : Fin 15 → Vec Ideal S1x128 .f32 :=
  ![View.readAt (Elt Ideal) arg1.view (Rect.unit (s := S1x1920) ![0, 0] S1x128.size inb_S1x1920_S1x128_0_0).toLoadRect (harg1.unread x1),
    View.readAt (Elt Ideal) arg1.view (Rect.unit (s := S1x1920) ![0, 128] S1x128.size inb_S1x1920_S1x128_0_128).toLoadRect (harg1.unread x1),
    View.readAt (Elt Ideal) arg1.view (Rect.unit (s := S1x1920) ![0, 256] S1x128.size inb_S1x1920_S1x128_0_256).toLoadRect (harg1.unread x1),
    View.readAt (Elt Ideal) arg1.view (Rect.unit (s := S1x1920) ![0, 384] S1x128.size inb_S1x1920_S1x128_0_384).toLoadRect (harg1.unread x1),
    View.readAt (Elt Ideal) arg1.view (Rect.unit (s := S1x1920) ![0, 512] S1x128.size inb_S1x1920_S1x128_0_512).toLoadRect (harg1.unread x1),
    View.readAt (Elt Ideal) arg1.view (Rect.unit (s := S1x1920) ![0, 640] S1x128.size inb_S1x1920_S1x128_0_640).toLoadRect (harg1.unread x1),
    View.readAt (Elt Ideal) arg1.view (Rect.unit (s := S1x1920) ![0, 768] S1x128.size inb_S1x1920_S1x128_0_768).toLoadRect (harg1.unread x1),
    View.readAt (Elt Ideal) arg1.view (Rect.unit (s := S1x1920) ![0, 896] S1x128.size inb_S1x1920_S1x128_0_896).toLoadRect (harg1.unread x1),
    View.readAt (Elt Ideal) arg1.view (Rect.unit (s := S1x1920) ![0, 1024] S1x128.size inb_S1x1920_S1x128_0_1024).toLoadRect (harg1.unread x1),
    View.readAt (Elt Ideal) arg1.view (Rect.unit (s := S1x1920) ![0, 1152] S1x128.size inb_S1x1920_S1x128_0_1152).toLoadRect (harg1.unread x1),
    View.readAt (Elt Ideal) arg1.view (Rect.unit (s := S1x1920) ![0, 1280] S1x128.size inb_S1x1920_S1x128_0_1280).toLoadRect (harg1.unread x1),
    View.readAt (Elt Ideal) arg1.view (Rect.unit (s := S1x1920) ![0, 1408] S1x128.size inb_S1x1920_S1x128_0_1408).toLoadRect (harg1.unread x1),
    View.readAt (Elt Ideal) arg1.view (Rect.unit (s := S1x1920) ![0, 1536] S1x128.size inb_S1x1920_S1x128_0_1536).toLoadRect (harg1.unread x1),
    View.readAt (Elt Ideal) arg1.view (Rect.unit (s := S1x1920) ![0, 1664] S1x128.size inb_S1x1920_S1x128_0_1664).toLoadRect (harg1.unread x1),
    View.readAt (Elt Ideal) arg1.view (Rect.unit (s := S1x1920) ![0, 1792] S1x128.size inb_S1x1920_S1x128_0_1792).toLoadRect (harg1.unread x1)]

theorem trips1 (k : Fin k0_t1_loop.trips) : (k : ℕ) < 16 := Nat.lt_of_lt_of_le k.isLt k0_t1_abs.2.1
theorem trips2 (k : Fin k0_t2_loop.trips) : (k : ℕ) < 16 := Nat.lt_of_lt_of_le k.isLt k0_t2_abs.2.1

theorem tiles_apply (k : Fin k0_t1_loop.trips) (t : Fin 15) (i l : Fin 128) :
    tiles arg0 harg0 x0 k t (ix2 i l) = x0 (ix2 ⟨128 * k + i, by have := trips1 k; omega⟩ ⟨128 * t + l, by omega⟩) := by
  have hk := trips1 k
  fin_cases t <;> refine (wide_apply _ i l).trans ?_
  · exact read0 arg0 harg0 x0 (k0_off1_eq k) _ i l _ _
  · exact read0 arg0 harg0 x0 (k0_off2_eq k) _ i l _ _
  · exact read0 arg0 harg0 x0 (k0_off3_eq k) _ i l _ _
  · exact read0 arg0 harg0 x0 (k0_off4_eq k) _ i l _ _
  · exact read0 arg0 harg0 x0 (k0_off5_eq k) _ i l _ _
  · exact read0 arg0 harg0 x0 (k0_off6_eq k) _ i l _ _
  · exact read0 arg0 harg0 x0 (k0_off7_eq k) _ i l _ _
  · exact read0 arg0 harg0 x0 (k0_off8_eq k) _ i l _ _
  · exact read0 arg0 harg0 x0 (k0_off9_eq k) _ i l _ _
  · exact read0 arg0 harg0 x0 (k0_off10_eq k) _ i l _ _
  · exact read0 arg0 harg0 x0 (k0_off11_eq k) _ i l _ _
  · exact read0 arg0 harg0 x0 (k0_off12_eq k) _ i l _ _
  · exact read0 arg0 harg0 x0 (k0_off13_eq k) _ i l _ _
  · exact read0 arg0 harg0 x0 (k0_off14_eq k) _ i l _ _
  · exact read0 arg0 harg0 x0 (k0_off15_eq k) _ i l _ _

theorem weights_apply (t : Fin 15) (l : Fin 128) : weights arg1 harg1 x1 t (ix2 0 l) = x1 (ix2 0 ⟨128 * t + l, by omega⟩) := by
  fin_cases t <;> exact read1 arg1 harg1 x1 rfl _ l _

/-- What trip `k` yields. -/
theorem tripR_eq (k : Fin k0_t1_loop.trips) (acc : FVec Ideal S8x128 .f32) :
    tripR_k0_t1 Variants.none c none arg0 harg0 arg1 harg1 arg2 harg2 arg3 harg3 arg4 harg4 (harg0.unread x0) (harg1.unread x1) k acc
      = block acc (rstd (squares (tiles arg0 harg0 x0 k))) (tiles arg0 harg0 x0 k) (weights arg1 harg1 x1) := by
  unfold tripR_k0_t1 trip_k0_t1
  rfl

/-- What trip `k` writes to the scratch. -/
theorem tripL_eq (k : Fin k0_t1_loop.trips) (acc : FVec Ideal S8x128 .f32) :
    tripL_k0_t1 Variants.none c none arg0 harg0 arg1 harg1 arg2 harg2 arg3 harg3 arg4 harg4 (harg0.unread x0) (harg1.unread x1) k acc
      = [⟨Rect.unit (s := S2048x128) (k0_off16 k) S128x128.size (k0_off16_inb k),
          k0_pay24 (squares (tiles arg0 harg0 x0 k)) (sixth (squares (tiles arg0 harg0 x0 k)))⟩] := by
  unfold tripL_k0_t1 trip_k0_t1
  rfl

/-- Row `r` of the input. -/
abbrev row (r : Fin 2048) : Fin 1920 → EReal := fun j => x0 (ix2 r j)

/-- The norm's weights. -/
abbrev gain : Fin 1920 → EReal := fun j => x1 (ix2 0 j)

/-- Every row's reciprocal root, in 128 lanes. -/
def roots : Vec Ideal S2048x128 .f32 := fun y => Ideal.div 1 (rms (row x0 (y 0)))

theorem rstd_tiles (k : Fin k0_t1_loop.trips) (i l : Fin 128) :
    rstd (squares (tiles arg0 harg0 x0 k)) (ix2 i l) = Ideal.div 1 (rms (row x0 ⟨128 * k + i, by have := trips1 k; omega⟩)) :=
  rstd_apply _ (row x0 ⟨128 * k + i, by have := trips1 k; omega⟩) i (fun t l => tiles_apply arg0 harg0 x0 k t i l) l

theorem scaled_tiles (k : Fin k0_t1_loop.trips) (t : Fin 15) (i l : Fin 128) :
    scaled (rstd (squares (tiles arg0 harg0 x0 k))) (tiles arg0 harg0 x0 k t, weights arg1 harg1 x1 t) (ix2 i l)
      = normed (row x0 ⟨128 * k + i, by have := trips1 k; omega⟩) (gain x1) ⟨128 * t + l, by omega⟩ := by
  rw [scaled_apply, rstd_tiles, ← normed_eq]
  dsimp only
  rw [tiles_apply, weights_apply]

/-- A bound of a row block's scaled tiles is one of its normalised rows. -/
theorem block_rows (k : Fin k0_t1_loop.trips) (acc : FVec Ideal S8x128 .f32) (b : EReal) :
    (∀ j, block acc (rstd (squares (tiles arg0 harg0 x0 k))) (tiles arg0 harg0 x0 k) (weights arg1 harg1 x1) j ≤ b)
      ↔ (∀ j, acc j ≤ b) ∧ ∀ r : Fin 2048, 128 * (k : ℕ) ≤ r → (r : ℕ) < 128 * (k + 1) →
          ∀ j, max (normed (row x0 r) (gain x1) j) (-normed (row x0 r) (gain x1) j) ≤ b := by
  rw [block_le]
  refine and_congr_right fun _ => ⟨fun H r h1 h2 j => ?_, fun H t i => ?_⟩
  · have := H ⟨(j : ℕ) / 128, by omega⟩ (ix2 ⟨(r : ℕ) - 128 * k, by omega⟩ ⟨(j : ℕ) % 128, Nat.mod_lt _ (by decide)⟩)
    rw [scaled_tiles] at this
    have er : (⟨128 * (k : ℕ) + ((r : ℕ) - 128 * k), by omega⟩ : Fin 2048) = r := Fin.ext (by simp; omega)
    have ej : (⟨128 * ((j : ℕ) / 128) + (j : ℕ) % 128, by omega⟩ : Fin 1920) = j := Fin.ext (Nat.div_add_mod _ _)
    rwa [er, ej] at this
  · obtain ⟨p, l, rfl⟩ : ∃ p l, i = ix2 p l := ⟨i 0, i 1, eq_ix2 i⟩
    rw [scaled_tiles]
    exact H _ (by simp) (by simp; omega) _

/-- The first loop: before trip `k` the lanes' maxima bound what the rows so far bound, and every block written to the scratch
    holds its rows' reciprocal roots. -/
theorem state1 : ∀ k : ℕ, k ≤ 16 →
    (∀ b : EReal, (∀ j, (st_k0_t1 (F := Ideal) Variants.none c none arg0 harg0 arg1 harg1 arg2 harg2 arg3 harg3 arg4 harg4 (harg0.unread x0) (harg1.unread x1) k0_pay1 k).1 j ≤ b) ↔ 0 ≤ b ∧ ∀ r : Fin 2048, (r : ℕ) < 128 * k →
      ∀ j, max (normed (row x0 r) (gain x1) j) (-normed (row x0 r) (gain x1) j) ≤ b)
    ∧ ∀ p ∈ (st_k0_t1 (F := Ideal) Variants.none c none arg0 harg0 arg1 harg1 arg2 harg2 arg3 harg3 arg4 harg4 (harg0.unread x0) (harg1.unread x1) k0_pay1 k).2, ∀ x, p.2 x = roots x0 (p.1.emb x)
  | 0, _ => by
    refine ⟨fun b => ?_, fun p hp => absurd hp List.not_mem_nil⟩
    refine ⟨fun H => ⟨(pay1_apply (ix2 0 0)).symm.trans_le (H (ix2 0 0)), fun r hr => absurd hr (by omega)⟩, fun H j => ?_⟩
    exact (pay1_apply j).trans_le H.1
  | k + 1, hk => by
    have ht : k < k0_t1_loop.trips := by rw [show k0_t1_loop.trips = 16 from by decide]; omega
    obtain ⟨ih1, ih2⟩ := state1 k (by omega)
    have e := st_k0_t1_succ (F := Ideal) Variants.none c none arg0 harg0 arg1 harg1 arg2 harg2 arg3 harg3 arg4 harg4 (harg0.unread x0) (harg1.unread x1) k0_pay1 ⟨k, ht⟩
    dsimp only at e
    rw [e]
    dsimp only
    rw [tripR_eq, tripL_eq]
    refine ⟨fun b => ?_, fun p hp => ?_⟩
    · rw [block_rows, ih1]
      constructor
      · rintro ⟨⟨h0, h1⟩, h2⟩
        refine ⟨h0, fun r hr => ?_⟩
        by_cases h : (r : ℕ) < 128 * k
        · exact h1 r h
        · exact h2 r (by simpa using Nat.le_of_not_lt h) hr
      · rintro ⟨h0, h1⟩
        exact ⟨⟨h0, fun r hr => h1 r (by omega)⟩, fun r _ hr => h1 r hr⟩
    · rcases List.mem_append.mp hp with hp | hp
      · obtain rfl := List.mem_singleton.mp hp
        intro x
        obtain ⟨i, l, rfl⟩ : ∃ i l, x = ix2 i l := ⟨x 0, x 1, eq_ix2 x⟩
        dsimp only
        rw [pay24_eq, rstd_tiles, emb_at (k0_off16_eq ⟨k, ht⟩) (k0_off16_inb ⟨k, ht⟩) i l (by dsimp only; omega) (by omega)]
        rfl
      · exact ih2 p hp

/-- After the first loop the scratch holds every row's reciprocal root. -/
theorem scratch_eq : View.canon (after1 c arg0 harg0 arg1 harg1 arg2 harg2 arg3 harg3 arg4 harg4 x0 x1).2 = roots x0 := by
  funext y
  refine View.canon_apply_of_pieces (roots x0) _ ?_ y ?_
  · exact (state1 c arg0 harg0 arg1 harg1 arg2 harg2 arg3 harg3 arg4 harg4 x0 x1 16 le_rfl).2
  · exact st1_cover Variants.none none c arg0 harg0 arg1 harg1 arg2 harg2 arg3 harg3 arg4 harg4 (harg0.unread x0) (harg1.unread x1) k0_pay1 16 le_rfl y (y 0).isLt

/-- The largest of the lanes' maxima is the largest absolute value of the normalised rows. -/
theorem peak_eq : peak (after1 c arg0 harg0 arg1 harg1 arg2 harg2 arg3 harg3 arg4 harg4 x0 x1).1 = topAbs fun r => normed (row x0 r) (gain x1) := by
  refine eq_of_forall_ge_iff fun b => ?_
  rw [peak_le, topAbs_le_iff]
  refine ((state1 c arg0 harg0 arg1 harg1 arg2 harg2 arg3 harg3 arg4 harg4 x0 x1 16 le_rfl).1 b).trans ⟨fun H r j => H.2 r r.isLt j, fun H => ⟨(abs_nonneg' _).trans (H 0 0), fun r _ j => H r j⟩⟩

/-! ## The second loop -/

/-- The scale of the whole matrix. -/
abbrev scaleN : EReal := scaleOf (topAbs fun r => normed (row x0 r) (gain x1))

/-- The codes of the whole matrix. -/
def codesN : Vec Ideal S2048x1920 .fp8e4m3 := fun y => codes (row x0 (y 0)) (gain x1) (scaleN x0 x1) (y 1)

theorem read4 {K : ℕ} {off : Fin 2 → ℕ} (ho : off = ![K, 0]) (inb : ∀ a, off a + S128x128.size a ≤ S2048x128.size a) (A : Vec Ideal S2048x128 .f32)
    (i l : Fin 128) (hK : K + i < 2048) :
    View.readAt (Elt Ideal) arg4.view (Rect.unit (s := S2048x128) off S128x128.size inb).toLoadRect (harg4.unread A) (ix2 i l)
      = A (ix2 ⟨K + i, hK⟩ l) := by
  rw [View.readAt_eq_ld, harg4.read_unread]
  refine (ld_at A ho inb i l hK (by omega)).trans (congrArg A ?_)
  exact congrArg (ix2 _) (Fin.ext (Nat.zero_add _))

/-- One stored tile of codes. -/
theorem piece2 (m : FVec Ideal S8x128 .f32) (hm : peak m = topAbs fun r => normed (row x0 r) (gain x1)) (k : Fin k0_t2_loop.trips)
    {T : ℕ} {off goff : Fin 2 → ℕ} (ho : off = ![128 * (k : ℕ), T]) (inb : ∀ a, off a + S128x128.size a ≤ S2048x1920.size a)
    (hg : goff = ![0, T]) (ginb : ∀ a, goff a + S1x128.size a ≤ S1x1920.size a) (hT : T + 128 ≤ 1920) (x : S128x128.Idx) :
    codesT (k0_pay4 m) (View.readAt (Elt Ideal) arg4.view (Rect.unit (s := S2048x128) (k0_off17 k) S128x128.size (k0_off17_inb k)).toLoadRect (harg4.unread (roots x0)))
      (View.readAt (Elt Ideal) arg0.view (Rect.unit (s := S2048x1920) off S128x128.size inb).toLoadRect (harg0.unread x0))
      (View.readAt (Elt Ideal) arg1.view (Rect.unit (s := S1x1920) goff S1x128.size ginb).toLoadRect (harg1.unread x1)) x
      = codesN x0 x1 ((Rect.unit (s := S2048x1920) off S128x128.size inb).emb x) := by
  have hk := trips2 k
  obtain ⟨i, l, rfl⟩ : ∃ i l, x = ix2 i l := ⟨x 0, x 1, eq_ix2 x⟩
  rw [codesT_apply, pay4_apply, pay3_eq, hm, read0 arg0 harg0 x0 ho inb i l (by omega) (by omega), read1 arg1 harg1 x1 hg ginb l (by omega),
    read4 arg4 harg4 (k0_off17_eq k) (k0_off17_inb k) (roots x0) i l (by omega), emb_at ho inb i l (by omega) (by omega)]
  exact codes_eq (row x0 ⟨128 * k + i, by omega⟩) (gain x1) (scaleOf_ne_zero _) ⟨T + l, by omega⟩

/-- What trip `k` stores. -/
theorem trip2 (m : FVec Ideal S8x128 .f32) (hm : peak m = topAbs fun r => normed (row x0 r) (gain x1)) (k : Fin k0_t2_loop.trips) :
    ∀ p ∈ tripL_k0_t2 (F := Ideal) Variants.none c none arg0 harg0 arg1 harg1 arg2 harg2 arg3 harg3 arg4 harg4 m (harg0.unread x0) (harg1.unread x1) (harg4.unread (roots x0)) k,
      ∀ x, p.2 x = codesN x0 x1 (p.1.emb x) := by
  unfold tripL_k0_t2 trip_k0_t2
  simp only [List.forall_mem_cons, List.not_mem_nil, false_imp_iff, implies_true, and_true]
  refine ⟨?_, ?_, ?_, ?_, ?_, ?_, ?_, ?_, ?_, ?_, ?_, ?_, ?_, ?_, ?_⟩
  · exact piece2 arg0 harg0 arg1 harg1 arg4 harg4 x0 x1 m hm k (k0_off32_eq k) _ rfl _ (by norm_num)
  · exact piece2 arg0 harg0 arg1 harg1 arg4 harg4 x0 x1 m hm k (k0_off31_eq k) _ rfl _ (by norm_num)
  · exact piece2 arg0 harg0 arg1 harg1 arg4 harg4 x0 x1 m hm k (k0_off30_eq k) _ rfl _ (by norm_num)
  · exact piece2 arg0 harg0 arg1 harg1 arg4 harg4 x0 x1 m hm k (k0_off29_eq k) _ rfl _ (by norm_num)
  · exact piece2 arg0 harg0 arg1 harg1 arg4 harg4 x0 x1 m hm k (k0_off28_eq k) _ rfl _ (by norm_num)
  · exact piece2 arg0 harg0 arg1 harg1 arg4 harg4 x0 x1 m hm k (k0_off27_eq k) _ rfl _ (by norm_num)
  · exact piece2 arg0 harg0 arg1 harg1 arg4 harg4 x0 x1 m hm k (k0_off26_eq k) _ rfl _ (by norm_num)
  · exact piece2 arg0 harg0 arg1 harg1 arg4 harg4 x0 x1 m hm k (k0_off25_eq k) _ rfl _ (by norm_num)
  · exact piece2 arg0 harg0 arg1 harg1 arg4 harg4 x0 x1 m hm k (k0_off24_eq k) _ rfl _ (by norm_num)
  · exact piece2 arg0 harg0 arg1 harg1 arg4 harg4 x0 x1 m hm k (k0_off23_eq k) _ rfl _ (by norm_num)
  · exact piece2 arg0 harg0 arg1 harg1 arg4 harg4 x0 x1 m hm k (k0_off22_eq k) _ rfl _ (by norm_num)
  · exact piece2 arg0 harg0 arg1 harg1 arg4 harg4 x0 x1 m hm k (k0_off21_eq k) _ rfl _ (by norm_num)
  · exact piece2 arg0 harg0 arg1 harg1 arg4 harg4 x0 x1 m hm k (k0_off20_eq k) _ rfl _ (by norm_num)
  · exact piece2 arg0 harg0 arg1 harg1 arg4 harg4 x0 x1 m hm k (k0_off19_eq k) _ rfl _ (by norm_num)
  · exact piece2 arg0 harg0 arg1 harg1 arg4 harg4 x0 x1 m hm k (k0_off18_eq k) _ rfl _ (by norm_num)

theorem trips2_all (m : FVec Ideal S8x128 .f32) (hm : peak m = topAbs fun r => normed (row x0 r) (gain x1)) : ∀ k : ℕ, k ≤ 16 →
    ∀ p ∈ pb_k0_t2 (F := Ideal) Variants.none c none arg0 harg0 arg1 harg1 arg2 harg2 arg3 harg3 arg4 harg4 m (harg0.unread x0) (harg1.unread x1) (harg4.unread (roots x0)) k,
      ∀ x, p.2 x = codesN x0 x1 (p.1.emb x)
  | 0, _, p, hp => absurd hp List.not_mem_nil
  | k + 1, hk, p, hp => by
    have ht : k < k0_t2_loop.trips := by rw [show k0_t2_loop.trips = 16 from by decide]; omega
    have e := pb_k0_t2_succ (F := Ideal) Variants.none c none arg0 harg0 arg1 harg1 arg2 harg2 arg3 harg3 arg4 harg4 m (harg0.unread x0) (harg1.unread x1) (harg4.unread (roots x0)) ⟨k, ht⟩
    dsimp only at e
    rw [e] at hp
    rcases List.mem_append.mp hp with hp | hp
    · exact trip2 c arg0 harg0 arg1 harg1 arg2 harg2 arg3 harg3 arg4 harg4 x0 x1 m hm ⟨k, ht⟩ p hp
    · exact trips2_all m hm k (by omega) p hp

/-! ## What the call stores -/

/-- The codes. -/
theorem out2_eq : out0_A_2 c arg0 harg0 arg1 harg1 arg2 harg2 arg3 harg3 arg4 harg4 x0 x1 = codesN x0 x1 := by
  unfold out0_A_2
  rw [View.read_writes_eq_canon _ _ _ (cover0_A_2 c arg0 harg0 arg1 harg1 arg2 harg2 arg3 harg3 arg4 harg4 x0 x1)]
  funext y
  refine View.canon_apply_of_pieces (codesN x0 x1) _ ?_ y (cover0_A_2 c arg0 harg0 arg1 harg1 arg2 harg2 arg3 harg3 arg4 harg4 x0 x1 y)
  show ∀ p ∈ left2 c arg0 harg0 arg1 harg1 arg2 harg2 arg3 harg3 arg4 harg4 x0 x1, _
  unfold left2
  rw [scratch_eq]
  exact trips2_all c arg0 harg0 arg1 harg1 arg2 harg2 arg3 harg3 arg4 harg4 x0 x1 _ (peak_eq c arg0 harg0 arg1 harg1 arg2 harg2 arg3 harg3 arg4 harg4 x0 x1) 16 le_rfl

/-- The scale. -/
theorem out3_eq : out0_A_3 c arg0 harg0 arg1 harg1 arg2 harg2 arg3 harg3 arg4 harg4 x0 x1 = fun _ => scaleN x0 x1 := by
  unfold out0_A_3
  rw [View.read_writes_eq_canon _ _ _ (cover0_A_3 c arg0 harg0 arg1 harg1 arg2 harg2 arg3 harg3 arg4 harg4 x0 x1)]
  funext y
  refine View.canon_apply_of_pieces (fun _ => scaleN x0 x1) _ ?_ y (cover0_A_3 c arg0 harg0 arg1 harg1 arg2 harg2 arg3 harg3 arg4 harg4 x0 x1 y)
  intro p hp x
  obtain rfl := List.mem_singleton.mp hp
  show k0_pay3 (after1 c arg0 harg0 arg1 harg1 arg2 harg2 arg3 harg3 arg4 harg4 x0 x1).1 = _
  rw [pay3_eq, peak_eq]

end Cert.NormIdeal.Loops

end
-- ==== Proof.NormReference.lean ====
/- The first call's reference over the extended reals: its one point works on whole arrays, and what it stores are the codes and
   the scale of the whole matrix. -/
module

public import proofs.«01_k».proof.Proof.Gen.NormReferenceIdeal.Value
public import proofs.«01_k».proof.Proof.NormTiles
public import Idealize.ShloMosaic.Lib.Pipeline.ValueKit
public import Idealize.ShloMosaic.Lib.Pointwise

@[expose] public section

set_option maxRecDepth 16384

noncomputable section

namespace Cert.NormReferenceIdeal.Values

open Cert.NormReferenceIdeal Cert.NormReferenceIdeal.Gen Cert.Rows Idealize.ShloMosaic Idealize.ShloMosaic.TcCoe

variable (x0 : Vec Ideal S2048x1920 .bf16) (x1 : Vec Ideal S1x1920 .f32)

/-- The normalised matrix. -/
theorem normed_apply (r : Fin 2048) (j : Fin 1920) :
    k0_pay1 x0 x1 (ix2 r j) = normed (fun j => x0 (ix2 r j)) (fun j => x1 (ix2 0 j)) j := by
  pointwise [k0_pay1]; rfl

/-- The largest element of a matrix, for any number of rows and columns. -/
def topOf {n m : ℕ} (A : FVec Ideal ⟨2, ![n, m]⟩ .f32) (h : (⟨2, ![n, m]⟩ : Shape).ShapeCasts ⟨3, ![1, n, m]⟩)
    (hr : Shape.Reduces ⟨3, ![1, n, m]⟩ [1, 2] S1) : EReal :=
  extractAt ![0, 0, 0] (shapeCast S1x1x1 (multiReduction .maximumf [1, 2] S1 (shapeCast ⟨3, ![1, n, m]⟩ A h)
    0xFF800000#32 hr (.inl rfl) rfl) shapeCasts_S1_S1x1x1) inpos_S1x1x1_p0_0_0

theorem topOf_le {n m : ℕ} (A : FVec Ideal ⟨2, ![n, m]⟩ .f32) (h : (⟨2, ![n, m]⟩ : Shape).ShapeCasts ⟨3, ![1, n, m]⟩)
    (hr : Shape.Reduces ⟨3, ![1, n, m]⟩ [1, 2] S1) (b : EReal) : topOf A h hr ≤ b ↔ ∀ j, A j ≤ b := by
  refine Iff.trans ?_ ((Cert.NormIdeal.Tiles.reduce_le (shapeCast ⟨3, ![1, n, m]⟩ A h) hr (.inl rfl) rfl b).trans
    (Cert.NormIdeal.Tiles.shapeCast_le A h b))
  refine ⟨fun H j => ?_, fun H => H _⟩
  have e : ∀ a b : S1.Idx, a = b := fun a b => by
    funext k; fin_cases k; exact Subsingleton.elim (α := Fin 1) _ _
  rw [e j]; exact H

/-- The largest element of a matrix of all tokens. -/
abbrev top (A : FVec Ideal S2048x1920 .f32) : EReal := topOf A shapeCasts_S2048x1920_S1x2048x1920 reduces_S1x2048x1920_S1

theorem top_eq : top (absf (k0_pay1 x0 x1)) = topAbs fun r => normed (fun j => x0 (ix2 r j)) (fun j => x1 (ix2 0 j)) := by
  refine eq_of_forall_ge_iff fun b => ?_
  rw [topOf_le, topAbs_le_iff]
  have a : ∀ r j, absf (k0_pay1 x0 x1) (ix2 r j) = max (normed (fun j => x0 (ix2 r j)) (fun j => x1 (ix2 0 j)) j)
      (-normed (fun j => x0 (ix2 r j)) (fun j => x1 (ix2 0 j)) j) := fun r j => by
    rw [← normed_apply]; rfl
  refine ⟨fun H r j => ?_, fun H i => ?_⟩
  · rw [← a]; exact H (ix2 r j)
  · obtain ⟨r, j, rfl⟩ : ∃ r j, i = ix2 r j := ⟨i 0, i 1, eq_ix2 i⟩
    rw [a]; exact H r j

theorem choose_eq (p : EReal) :
    select (cmpf .oeq (broadcast S1x1 p : FVec Ideal S1x1 .f32) (broadcast S1x1 (Scalar.ofBits .f32 0x00000000#32)))
      (broadcast S1x1 (Scalar.ofBits .f32 0x3F800000#32)) (divf (broadcast S1x1 p : FVec Ideal S1x1 .f32)
        (broadcast S1x1 (Scalar.ofBits .f32 0x43E00000#32))) (ix2 0 0)
      = scaleOf p := by
  pointwise; rfl

/-- The scale. -/
theorem scale_eq : k0_pay2 x0 x1 = scaleM x0 x1 (ix2 0 0) := by
  have e : k0_pay2 x0 x1 = Scalar.select (Scalar.cmpf (F := Ideal) (φ := .f32) .oeq (top (absf (k0_pay1 x0 x1))) (Scalar.ofBits .f32 0x00000000#32))
      (Scalar.ofBits .f32 0x3F800000#32) (Scalar.divf (F := Ideal) (φ := .f32) (top (absf (k0_pay1 x0 x1))) (Scalar.ofBits .f32 0x43E00000#32)) := rfl
  rw [e, top_eq]
  unfold scaleM
  generalize (topAbs fun r => normed (fun j => x0 (ix2 r j)) (fun j => x1 (ix2 0 j))) = p
  exact choose_eq p

/-- A matrix over a scale, clipped. -/
def over (A : FVec Ideal S2048x1920 .f32) (s : EReal) : FVec Ideal S2048x1920 .fp8e4m3 :=
  truncf .fp8e4m3 (minimumf (broadcast S2048x1920 (Scalar.ofBits .f32 0x43E00000#32))
    (maximumf (broadcast S2048x1920 (Scalar.ofBits .f32 0xC3E00000#32)) (divf A (broadcast S2048x1920 s : FVec Ideal S2048x1920 .f32)))) bitsLt_fp8e4m3_f32

theorem over_apply (A : FVec Ideal S2048x1920 .f32) (s : EReal) (r : Fin 2048) (j : Fin 1920) :
    over A s (ix2 r j) = clip8 (Ideal.div (A (ix2 r j)) s) := by
  pointwise [over]; rfl

/-- The codes. -/
theorem codes_eq : k0_pay3 x0 x1 = codesM x0 x1 := by
  refine Mat.ext fun r j => ?_
  have e : k0_pay3 x0 x1 = over (k0_pay1 x0 x1) (k0_pay2 x0 x1) := rfl
  rw [e, over_apply, normed_apply, scale_eq]
  rfl

theorem zero2 : (![0, 0] : Fin 2 → ℕ) = fun _ => 0 := by funext a; fin_cases a <;> rfl

section Outs

variable (c : Dev nD) (arg0 : Memref sig .tc .vmem S2048x1920 .bf16) (harg0 : arg0.IsWhole) (arg1 : Memref sig .tc .vmem S1x1920 .f32) (harg1 : arg1.IsWhole)
  (arg2 : Memref sig .tc .vmem S2048x1920 .fp8e4m3) (harg2 : arg2.IsWhole) (arg3 : Memref sig .tc .smem S1x1 .f32) (harg3 : arg3.IsWhole)

theorem out2_eq : out0_A_2 c arg0 harg0 arg1 harg1 arg2 harg2 arg3 harg3 x0 x1 = codesM x0 x1 := by
  unfold out0_A_2
  rw [View.read_writes_eq_canon _ _ _ (cover0_A_2 c arg0 harg0 arg1 harg1 arg2 harg2 arg3 harg3 x0 x1)]
  unfold kernelRun0_A
  dsimp only
  rw [View.canon_unit_zero zero2]
  simp only [View.readAt_eq_ld, harg0.read_unread, harg1.read_unread, View.ld_unit_zero (S := S2048x1920) zero2, View.ld_unit_zero (S := S1x1920) zero2]
  exact codes_eq x0 x1

theorem out3_eq : out0_A_3 c arg0 harg0 arg1 harg1 arg2 harg2 arg3 harg3 x0 x1 = scaleM x0 x1 := by
  unfold out0_A_3
  rw [View.read_writes_eq_canon _ _ _ (cover0_A_3 c arg0 harg0 arg1 harg1 arg2 harg2 arg3 harg3 x0 x1)]
  unfold kernelRun0_A
  dsimp only
  rw [View.canon_unit_zero zero2]
  simp only [View.readAt_eq_ld, harg0.read_unread, harg1.read_unread, View.ld_unit_zero (S := S2048x1920) zero2, View.ld_unit_zero (S := S1x1920) zero2]
  funext y
  exact scale_eq x0 x1

end Outs

/-! ## Whole arrays -/

variable (m : (ℓ : Loc nD τ sig) → Buf (Elt Ideal) ℓ) (c : Dev nD) (t : Fin cfg0.N)

/-- The input as a matrix. -/
abbrev xA : Mat 2048 1920 := V m c main_v0
/-- The norm's weights as a row. -/
abbrev gA : Mat 1 1920 := V m c main_v1

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem iblk0 : iblk m c 0 t = xA m c := by
  funext y; blk_ext [iblk, idx0]
theorem iblk1 : iblk m c 1 t = gA m c := by
  funext y; blk_ext [iblk, idx1]

/-- The codes. -/
theorem arr2 : (dats m 0 c).arrAt 2 cfg0.N = codesM (xA m c) (gA m c) := by
  refine (dats m 0 c).arrAt_eq_of_covers 2 _ (by decide +kernel) fun t hf y => ?_
  refine (congrFun (Value.flushed2_A m c t) y).trans ?_
  rw [out2_eq, iblk0, iblk1]
  refine congrArg (codesM (xA m c) (gA m c)) ?_
  blk_ext [idx2]

/-- The scale. -/
theorem arr3 : (dats m 0 c).arrAt 3 cfg0.N = scaleM (xA m c) (gA m c) := by
  refine (dats m 0 c).arrAt_eq_of_covers 3 _ (by decide +kernel) fun t hf y => ?_
  refine (congrFun (Value.flushed3_A m c t) y).trans ?_
  rw [out3_eq, iblk0, iblk1]
  rfl

end Cert.NormReferenceIdeal.Values

end
-- ==== Proof.NormAgree.lean ====
/- The first call from equal arguments: both programs turn the input into a matrix of all tokens and the weights into a row, so
   both results are the same functions of the same arrays. -/
module

public import proofs.«01_k».proof.Proof.NormLoops
public import proofs.«01_k».proof.Proof.NormReference
public import Idealize.ShloMosaic.Lib.Pipeline.ValueKit

@[expose] public section

set_option maxRecDepth 16384

noncomputable section

/-! ## The kernel's whole arrays -/

namespace Cert.NormIdeal.Values

open Cert.NormIdeal Cert.NormIdeal.Gen Cert.NormIdeal.Hand Cert.Rows Idealize.ShloMosaic Idealize.ShloMosaic.TcCoe

variable (m : (ℓ : Loc nD τ sig) → Buf (Elt Ideal) ℓ) (c : Dev nD) (t : Fin cfg0.N)

/-- The input as a matrix. -/
abbrev xA : Mat 2048 1920 := V m c main_v0
/-- The norm's weights as a row. -/
abbrev gA : Mat 1 1920 := V m c main_v1

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem iblk0 : iblk m c 0 t = xA m c := by
  funext y; blk_ext [iblk, idx0]
theorem iblk1 : iblk m c 1 t = gA m c := by
  funext y; blk_ext [iblk, idx1]

/-- The codes. -/
theorem arr2 : (dats m 0 c).arrAt 2 cfg0.N = codesM (xA m c) (gA m c) := by
  refine (dats m 0 c).arrAt_eq_of_covers 2 _ (by decide +kernel) fun t hf y => ?_
  refine (congrFun (flushed2_A m c t) y).trans ?_
  rw [Loops.out2_eq, iblk0, iblk1]
  refine congrArg (codesM (xA m c) (gA m c)) ?_
  blk_ext [idx2]

/-- The scale. -/
theorem arr3 : (dats m 0 c).arrAt 3 cfg0.N = scaleM (xA m c) (gA m c) := by
  refine (dats m 0 c).arrAt_eq_of_covers 3 _ (by decide +kernel) fun t hf y => ?_
  refine (congrFun (flushed3_A m c t) y).trans ?_
  rw [Loops.out3_eq, iblk0, iblk1]
  rfl

end Cert.NormIdeal.Values

namespace Cert.NormAgree

open Idealize.ShloMosaic Idealize.ShloMosaic.TcCoe Cert.Rows

/-- The tokens of all batches as one matrix. -/
def asMat (h : (⟨3, ![2, 1024, 1920]⟩ : Shape).ShapeCasts ⟨2, ![2048, 1920]⟩) (v : (⟨3, ![2, 1024, 1920]⟩ : Shape).Idx → EReal) : Mat 2048 1920 :=
  shapeCast (⟨2, ![2048, 1920]⟩ : Shape) v h

/-- A vector as a row. -/
def asRow (h : (⟨1, ![1920]⟩ : Shape).ShapeCasts ⟨2, ![1, 1920]⟩) (v : (⟨1, ![1920]⟩ : Shape).Idx → EReal) : Mat 1 1920 :=
  shapeCast (⟨2, ![1, 1920]⟩ : Shape) v h

theorem castsX : (⟨3, ![2, 1024, 1920]⟩ : Shape).ShapeCasts ⟨2, ![2048, 1920]⟩ := by decide

theorem castsG : (⟨1, ![1920]⟩ : Shape).ShapeCasts ⟨2, ![1, 1920]⟩ := by decide

section NormIdeal

open Cert.NormIdeal Cert.NormIdeal.Gen Cert.NormIdeal.Values

variable (m : (ℓ : Loc nD τ sig) → Buf (Elt Ideal) ℓ) (c : Dev nD)

theorem k_x : xA m c = asMat castsX (m ((c : Thread nD τ).loc main_arg0)) := by
  unfold xA V hostOps0
  after_region_results
  rfl

theorem k_g : gA m c = asRow castsG (m ((c : Thread nD τ).loc main_arg1)) := by
  unfold gA V hostOps0
  after_region_results
  rfl

end NormIdeal

section NormReferenceIdeal

open Cert.NormReferenceIdeal Cert.NormReferenceIdeal.Gen Cert.NormReferenceIdeal.Values

variable (m' : (ℓ : Loc nD τ sig) → Buf (Elt Ideal) ℓ) (c : Dev nD)

theorem r_x : xA m' c = asMat castsX (m' ((c : Thread nD τ).loc main_arg0)) := by
  unfold xA V hostOps0
  after_region_results
  rfl

theorem r_g : gA m' c = asRow castsG (m' ((c : Thread nD τ).loc main_arg1)) := by
  unfold gA V hostOps0
  after_region_results
  rfl

end NormReferenceIdeal

section Results

variable {m : (ℓ : Loc Cert.NormIdeal.nD Cert.NormIdeal.τ Cert.NormIdeal.sig) → Buf (Elt Ideal) ℓ}
  {m' : (ℓ : Loc Cert.NormReferenceIdeal.nD Cert.NormReferenceIdeal.τ Cert.NormReferenceIdeal.sig) → Buf (Elt Ideal) ℓ} {c : Dev Cert.NormIdeal.nD}
  (e0 : m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0))
  (e1 : m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1))

include e0 in
theorem same_x : Cert.NormReferenceIdeal.Values.xA m' c = Cert.NormIdeal.Values.xA m c := (r_x m' c).trans ((congrArg (asMat _) e0).trans (k_x m c).symm)

include e1 in
theorem same_g : Cert.NormReferenceIdeal.Values.gA m' c = Cert.NormIdeal.Values.gA m c := (r_g m' c).trans ((congrArg (asRow _) e1).trans (k_g m c).symm)

include e0 e1

/-- The codes. -/
theorem same2 : ((Cert.NormReferenceIdeal.Gen.dats m' 0 c).arrAt 2 Cert.NormReferenceIdeal.cfg0.N : Mat 2048 1920) = (Cert.NormIdeal.Hand.dats m 0 c).arrAt 2 Cert.NormIdeal.cfg0.N := by
  refine (Cert.NormReferenceIdeal.Values.arr2 m' c).trans (Eq.trans ?_ (Cert.NormIdeal.Values.arr2 m c).symm)
  rw [same_x e0, same_g e1]

/-- The scale. -/
theorem same3 : ((Cert.NormReferenceIdeal.Gen.dats m' 0 c).arrAt 3 Cert.NormReferenceIdeal.cfg0.N : Mat 1 1) = (Cert.NormIdeal.Hand.dats m 0 c).arrAt 3 Cert.NormIdeal.cfg0.N := by
  refine (Cert.NormReferenceIdeal.Values.arr3 m' c).trans (Eq.trans ?_ (Cert.NormIdeal.Values.arr3 m c).symm)
  rw [same_x e0, same_g e1]

end Results

end Cert.NormAgree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.NormFrame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormReferenceIdeal
public import proofs.«01_k».proof.Proof.Gen.NormReferenceIdeal.Skeleton
public import proofs.«01_k».proof.Proof.Gen.NormReferenceIdeal.Launch
public import proofs.«01_k».proof.Proof.Gen.NormReferenceIdeal.Points
public import proofs.«01_k».proof.Proof.Gen.NormReferenceIdeal.Frame
public import proofs.«01_k».proof.Proof.Gen.NormReferenceIdeal.Value
public import proofs.«01_k».proof.Proof.Agree
public import proofs.«01_k».proof.Proof.NormAgree
public import Idealize.ShloMosaic.Adequacy
public import Idealize.ShloMosaic.Init

@[expose] public section

noncomputable section

namespace Cert.Proof

open Idealize.ShloMosaic Idealize.SL.Sem Cert.Agree

theorem algebraic [Cert.Pre_scale_is_not_zero.Facts] :
    algebraic_KernelIdeal_ReferenceIdeal_pre_scale_is_not_zero (hKernelIdeal := Cert.KernelIdeal.Gen.facts) (hReferenceIdeal := Cert.ReferenceIdeal.Gen.facts) := by
  intro m g m' g' hpre heq
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    fun c => (Cert.KernelIdeal.Gen.dats m 0 c).arrAt 15 Cert.KernelIdeal.cfg0.N, Cert.KernelIdeal.Value.run_blocks m g, ?_⟩
  refine (θ_run _ _ _).mono (fun r h c => ?_) (Cert.ReferenceIdeal.Value.run_blocks m' g')
  obtain ⟨e0, e1, e2, e3, e4, e5, e6, e7, e8⟩ := heq c
  obtain ⟨h0, h1, h2, h3, h4, h5, h6, hargs⟩ := h c
  have hs : Cert.KernelIdeal.Arrays.sA m c (ix2 0 0) ≠ 0 := by rw [k_s]; exact ne_zero_of_pre (hpre c)
  exact ⟨h0.trans (same9 e0 e1 e2 hs), h1.trans (same10 e0 e1 e2 e3 e4 hs), h2.trans (same11 e0 e1 e2 e5 e6 hs),
    h3.trans (same12 e0 e1 e2 e3 e4 e5 e6 hs), h4.trans (same13 e0 e1 e2 e3 e4 e5 e6 hs),
    h5.trans (same14 e0 e1 e2 e3 e4 e5 e6 e7 e8 hs), h6.trans (same15 e0 e1 e2 e3 e4 e5 e6 e7 e8 hs), hargs⟩

theorem algebraic_norm :
    algebraic_NormIdeal_NormReferenceIdeal (hNormIdeal := Cert.NormIdeal.Gen.facts) (hNormReferenceIdeal := Cert.NormReferenceIdeal.Gen.facts) := by
  intro m g m' g' _ heq
  refine ⟨fun c => (Cert.NormIdeal.Hand.dats m 0 c).arrAt 2 Cert.NormIdeal.cfg0.N, fun c => (Cert.NormIdeal.Hand.dats m 0 c).arrAt 3 Cert.NormIdeal.cfg0.N,
    Cert.NormIdeal.Hand.run_blocks m g, ?_⟩
  refine (θ_run _ _ _).mono (fun r h c => ?_) (Cert.NormReferenceIdeal.Value.run_blocks m' g')
  obtain ⟨e0, e1⟩ := heq c
  obtain ⟨h0, h1, hargs⟩ := h c
  exact ⟨h0.trans (Cert.NormAgree.same2 e0 e1), h1.trans (Cert.NormAgree.same3 e0 e1), hargs⟩

theorem claim : Cert.Claim :=
  ⟨Cert.Kernel.Gen.facts, Cert.KernelIdeal.Gen.facts, Cert.ReferenceIdeal.Gen.facts, Cert.Norm.Gen.facts, Cert.NormIdeal.Gen.facts,
    Cert.NormReferenceIdeal.Gen.facts, pre_facts,
    fun m g _ => Cert.Kernel.Gen.frame m g,
    fun m g _ => Cert.KernelIdeal.Gen.frame m g,
    fun m g _ => Cert.KernelIdeal.Gen.frame m g,
    fun m g _ => Cert.ReferenceIdeal.Gen.frame m g,
    fun m g _ => Cert.ReferenceIdeal.Gen.frame m g,
    fun m g _ => Cert.Norm.Hand.frame m g,
    fun m g _ => Cert.NormIdeal.Hand.frame m g,
    fun m g _ => Cert.NormReferenceIdeal.Gen.frame m g,
    IdealRules.named_const.statement Cert.KernelIdeal.κ "inv_fp8_max" .f32 0x3B124925#32 ((448⁻¹ : ℝ) : EReal) rfl,
    @algebraic pre_facts,
    ⟨IdealRules.named_const.statement Cert.NormIdeal.κ "inv_width" .f32 0x3A088889#32 ((1920⁻¹ : ℝ) : EReal) rfl,
      IdealRules.named_const.statement Cert.NormIdeal.κ "inv_fp8_max" .f32 0x3B124925#32 ((448⁻¹ : ℝ) : EReal) rfl⟩,
    algebraic_norm⟩

end Cert.Proof

end
